-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v28) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S64x4096 : Shape := ⟨2, ![64, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S2048x4096 .f32) (main_arg1 : FVec F S64x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S2048x4096 : Shape := ⟨2, ![2048, 4096]⟩
abbrev S64x4096 : Shape := ⟨2, ![64, 4096]⟩
abbrev S64x64x2048 : Shape := ⟨3, ![64, 64, 2048]⟩
abbrev S64x1 : Shape := ⟨2, ![64, 1]⟩
abbrev S512x4096 : Shape := ⟨2, ![512, 4096]⟩
abbrev S64x64x512 : Shape := ⟨3, ![64, 64, 512]⟩
abbrev S8x2048 : Shape := ⟨2, ![8, 2048]⟩
abbrev S64x512 : Shape := ⟨2, ![64, 512]⟩
abbrev S512 : Shape := ⟨1, ![512]⟩
abbrev S1x512 : Shape := ⟨2, ![1, 512]⟩
abbrev S512x512 : Shape := ⟨2, ![512, 512]⟩
abbrev S64 : Shape := ⟨1, ![64]⟩
abbrev S64x1x512 : Shape := ⟨3, ![64, 1, 512]⟩
abbrev S1x64x512 : Shape := ⟨3, ![1, 64, 512]⟩
abbrev S_ : Shape := ⟨0, ![]⟩
abbrev S2048x64x64 : Shape := ⟨3, ![2048, 64, 64]⟩

abbrev nBuf : Space → Nat
  | .hbm => 30
  | .vmem => 13
  | .smem => 0
  | _ => 0

abbrev bufTy : (tb : Table) → Fin (tcTables nBuf tb) → BufTy
  | .hbm, ⟨0, _⟩ => ⟨S2048x4096, .f32⟩
  | .hbm, ⟨1, _⟩ => ⟨S64x4096, .f32⟩
  | .hbm, ⟨2, _⟩ => ⟨S64x64x2048, .f32⟩
  | .hbm, ⟨3, _⟩ => ⟨S64x64x2048, .i8⟩
  | .hbm, ⟨4, _⟩ => ⟨S64x1, .i32⟩
  | .hbm, ⟨5, _⟩ => ⟨S64x1, .f32⟩
  | .hbm, ⟨6, _⟩ => ⟨S64, .i32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2048x64x64, .f32⟩
  | .hbm, ⟨25, _⟩ => ⟨S2048x64x64, .i8⟩
  | .hbm, ⟨26, _⟩ => ⟨S_, .i8⟩
  | .hbm, ⟨27, _⟩ => ⟨S2048x64x64, .i8⟩
  | .hbm, ⟨28, _⟩ => ⟨S2048x64x64, .i1⟩
  | .hbm, ⟨29, _⟩ => ⟨S2048x64x64, .i1⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S64x64x512, .f32⟩
  | .local _ .vmem, ⟨4, _⟩ => ⟨S64x64x512, .f32⟩
  | .local _ .vmem, ⟨5, _⟩ => ⟨S64x64x512, .i8⟩
  | .local _ .vmem, ⟨6, _⟩ => ⟨S64x64x512, .i8⟩
  | .local _ .vmem, ⟨7, _⟩ => ⟨S64x1, .i32⟩
  | .local _ .vmem, ⟨8, _⟩ => ⟨S64x1, .f32⟩
  | .local _ .vmem, ⟨9, _⟩ => ⟨S8x2048, .f32⟩
  | .local _ .vmem, ⟨10, _⟩ => ⟨S64x1, .f32⟩
  | .local _ .vmem, ⟨11, _⟩ => ⟨S64x1, .f32⟩
  | .local _ .vmem, ⟨12, _⟩ => ⟨S64x1, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg0 : BitVec 32 := BitVec.ofNat 32 (i 0).val
  let c0_i32_2 : BitVec 32 := 0#32
  let v6 : BitVec 1 := Scalar.cmpi .eq arg0 c0_i32_2
  let v7 : BitVec 32 := Scalar.extui v6
  let c0_i32_3 : BitVec 32 := 0#32
  let v8 : BitVec 1 := Scalar.cmpi .ne v7 c0_i32_3
  v8

def k0_off1 (i : grid0.Coords) : Fin 2 → Nat :=
  let c0_24 : Index := 0#32
  let arg1 : BitVec 32 := BitVec.ofNat 32 (i 1).val
  let c512_i32 : BitVec 32 := 512#32
  let v67 : BitVec 32 := Scalar.muli arg1 c512_i32
  let v69 : Index := Scalar.indexCast v67
  ![0, v69.toNat]
def k0_off2 (i : grid0.Coords) : Fin 2 → Nat :=
  let c1 : Index := 1#32
  let arg1 : BitVec 32 := BitVec.ofNat 32 (i 1).val
  let c512_i32 : BitVec 32 := 512#32
  let v67 : BitVec 32 := Scalar.muli arg1 c512_i32
  let v74 : Index := Scalar.indexCast v67
  ![1, v74.toNat]
def k0_off3 (i : grid0.Coords) : Fin 2 → Nat :=
  let c2 : Index := 2#32
  let arg1 : BitVec 32 := BitVec.ofNat 32 (i 1).val
  let c512_i32 : BitVec 32 := 512#32
  let v67 : BitVec 32 := Scalar.muli arg1 c512_i32
  let v78 : Index := Scalar.indexCast v67
  ![2, v78.toNat]
def k0_off4 (i : grid0.Coords) : Fin 2 → Nat :=
  let c3 : Index := 3#32
  let arg1 : BitVec 32 := BitVec.ofNat 32 (i 1).val
  let c512_i32 : BitVec 32 := 512#32
  let v67 : BitVec 32 := Scalar.muli arg1 c512_i32
  let v82 : Index := Scalar.indexCast v67
  ![3, v82.toNat]
def k0_off5 (i : grid0.Coords) : Fin 2 → Nat :=
  let c4 : Index := 4#32
  let arg1 : BitVec 32 := BitVec.ofNat 32 (i 1).val
  let c512_i32 : BitVec 32 := 512#32
  let v67 : BitVec 32 := Scalar.muli arg1 c512_i32
  let v89 : Index := Scalar.indexCast v67
  ![4, v89.toNat]
def k0_off6 (i : grid0.Coords) : Fin 2 → Nat :=
  let c5 : Index := 5#32
  let arg1 : BitVec 32 := BitVec.ofNat 32 (i 1).val
  let c512_i32 : BitVec 32 := 512#32
  let v67 : BitVec 32 := Scalar.muli arg1 c512_i32
  let v96 : Index := Scalar.indexCast v67
  ![5, v96.toNat]
def k0_cond3 (i : grid0.Coords) : BitVec 1 :=
  let arg0 : BitVec 32 := BitVec.ofNat 32 (i 0).val
  let c1_i32 : BitVec 32 := 1#32
  let v9 : BitVec 1 := Scalar.cmpi .eq arg0 c1_i32
  let v10 : BitVec 32 := Scalar.extui v9
  let c0_i32_4 : BitVec 32 := 0#32
  let v11 : BitVec 1 := Scalar.cmpi .ne v10 c0_i32_4
  v11

def k0_off7 (i : grid0.Coords) : Fin 2 → Nat :=
  let c0 : Index := 0#32
  let arg1 : BitVec 32 := BitVec.ofNat 32 (i 1).val
  let c512_i32 : BitVec 32 := 512#32
  let v12 : BitVec 32 := Scalar.muli arg1 c512_i32
  let v13 : Index := Scalar.indexCast v12
  ![0, v13.toNat]
def k0_off8 (i : grid0.Coords) : Fin 2 → Nat :=
  let c1 : Index := 1#32
  let arg1 : BitVec 32 := BitVec.ofNat 32 (i 1).val
  let c512_i32 : BitVec 32 := 512#32
  let v12 : BitVec 32 := Scalar.muli arg1 c512_i32
  let v16 : Index := Scalar.indexCast v12
  ![1, v16.toNat]
def k0_off9 (i : grid0.Coords) : Fin 2 → Nat :=
  let c2 : Index := 2#32
  let arg1 : BitVec 32 := BitVec.ofNat 32 (i 1).val
  let c512_i32 : BitVec 32 := 512#32
  let v12 : BitVec 32 := Scalar.muli arg1 c512_i32
  let v19 : Index := Scalar.indexCast v12
  ![2, v19.toNat]
def k0_off10 (i : grid0.Coords) : Fin 2 → Nat :=
  let c3 : Index := 3#32
  let arg1 : BitVec 32 := BitVec.ofNat 32 (i 1).val
  let c512_i32 : BitVec 32 := 512#32
  let v12 : BitVec 32 := Scalar.muli arg1 c512_i32
  let v21 : Index := Scalar.indexCast v12
  ![3, v21.toNat]
def k0_off11 (i : grid0.Coords) : Fin 2 → Nat :=
  let c4 : Index := 4#32
  let arg1 : BitVec 32 := BitVec.ofNat 32 (i 1).val
  let c512_i32 : BitVec 32 := 512#32
  let v12 : BitVec 32 := Scalar.muli arg1 c512_i32
  let v23 : Index := Scalar.indexCast v12
  ![4, v23.toNat]
def k0_off12 (i : grid0.Coords) : Fin 2 → Nat :=
  let c5 : Index := 5#32
  let arg1 : BitVec 32 := BitVec.ofNat 32 (i 1).val
  let c512_i32 : BitVec 32 := 512#32
  let v12 : BitVec 32 := Scalar.muli arg1 c512_i32
  let v25 : Index := Scalar.indexCast v12
  ![5, v25.toNat]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S64x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x64x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S2048x4096 : Shape := ⟨2, ![2048, 4096]⟩
abbrev S64x4096 : Shape := ⟨2, ![64, 4096]⟩
abbrev S4096x64 : Shape := ⟨2, ![4096, 64]⟩
abbrev S2048x64 : Shape := ⟨2, ![2048, 64]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S1x1x64 : Shape := ⟨3, ![1, 1, 64]⟩
abbrev S2048x2x64 : Shape := ⟨3, ![2048, 2, 64]⟩
abbrev S2048x1x64 : Shape := ⟨3, ![2048, 1, 64]⟩
abbrev S64 : Shape := ⟨1, ![64]⟩
abbrev S1x64 : Shape := ⟨2, ![1, 64]⟩
abbrev S2048x64x1 : Shape := ⟨3, ![2048, 64, 1]⟩
abbrev S2048x64x64 : Shape := ⟨3, ![2048, 64, 64]⟩

abbrev nBuf : Space → Nat
  | .hbm => 132
  | .vmem => 0
  | .smem => 0
  | _ => 0

abbrev hbmTy0_0 (i : Nat) : BufTy := match i % 128 with
  | 0 => ⟨S2048x4096, .f32⟩
  | 1 => ⟨S64x4096, .f32⟩
  | 2 => ⟨S4096x64, .f32⟩
  | 3 => ⟨S2048x64, .f32⟩
  | 4 => ⟨S_, .f32⟩
  | 5 => ⟨S2048, .f32⟩
  | 6 => ⟨S_, .f32⟩
  | 7 => ⟨S2048, .f32⟩
  | 8 => ⟨S2048, .f32⟩
  | 9 => ⟨S2048x1, .f32⟩
  | 10 => ⟨S2048x64, .f32⟩
  | 11 => ⟨S2048x64, .f32⟩
  | 12 => ⟨S2048x64, .f32⟩
  | 13 => ⟨S_, .f32⟩
  | 14 => ⟨S2048, .f32⟩
  | 15 => ⟨S2048x1, .f32⟩
  | 16 => ⟨S2048x64, .f32⟩
  | 17 => ⟨S2048x64, .f32⟩
  | 18 => ⟨S2048x2, .f32⟩
  | 19 => ⟨S2048x2, .i32⟩
  | 20 => ⟨S2048x2x1, .i32⟩
  | 21 => ⟨S1x1x64, .i32⟩
  | 22 => ⟨S2048x2x64, .i32⟩
  | 23 => ⟨S2048x2x64, .i32⟩
  | 24 => ⟨S2048x2x64, .i1⟩
  | 25 => ⟨S2048x2x64, .i32⟩
  | 26 => ⟨S2048x1x64, .i32⟩
  | 27 => ⟨S2048x64, .i32⟩
  | 28 => ⟨S2048x1x64, .i32⟩
  | 29 => ⟨S2048x64, .i32⟩
  | 30 => ⟨S_, .i32⟩
  | 31 => ⟨S_, .i32⟩
  | 32 => ⟨S2048x64, .i32⟩
  | 33 => ⟨S_, .i32⟩
  | 34 => ⟨S2048x64, .i32⟩
  | 35 => ⟨S2048x64, .i32⟩
  | 36 => ⟨S_, .i32⟩
  | 37 => ⟨S_, .i32⟩
  | 38 => ⟨S2048x64, .i32⟩
  | 39 => ⟨S_, .i32⟩
  | 40 => ⟨S2048x64, .i32⟩
  | 41 => ⟨S2048x64, .i32⟩
  | 42 => ⟨S_, .i32⟩
  | 43 => ⟨S64, .i32⟩
  | 44 => ⟨S1x64, .i32⟩
  | 45 => ⟨S2048x64, .i32⟩
  | 46 => ⟨S2048x64, .i32⟩
  | 47 => ⟨S_, .i32⟩
  | 48 => ⟨S64, .i32⟩
  | 49 => ⟨S_, .f32⟩
  | 50 => ⟨S64, .f32⟩
  | 51 => ⟨S_, .f32⟩
  | 52 => ⟨S64, .f32⟩
  | 53 => ⟨S64, .f32⟩
  | 54 => ⟨S2048x64, .f32⟩
  | 55 => ⟨S_, .f32⟩
  | 56 => ⟨S64, .f32⟩
  | 57 => ⟨S_, .f32⟩
  | 58 => ⟨S64, .f32⟩
  | 59 => ⟨S64, .f32⟩
  | 60 => ⟨S64, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .i32⟩
  | 70 => ⟨S2048x64, .i32⟩
  | 71 => ⟨S2048x64, .i1⟩
  | 72 => ⟨S2048x64, .i32⟩
  | 73 => ⟨S2048x64, .i32⟩
  | 74 => ⟨S_, .i32⟩
  | 75 => ⟨S2048x64, .i32⟩
  | 76 => ⟨S2048x64, .i1⟩
  | 77 => ⟨S2048x64, .i32⟩
  | 78 => ⟨S2048x64, .i32⟩
  | 79 => ⟨S2048x64, .i32⟩
  | 80 => ⟨S_, .i32⟩
  | 81 => ⟨S2048, .i32⟩
  | 82 => ⟨S2048x64, .i32⟩
  | 83 => ⟨S_, .i32⟩
  | 84 => ⟨S2048, .i32⟩
  | 85 => ⟨S2048x64, .f32⟩
  | 86 => ⟨S2048x64, .f32⟩
  | 87 => ⟨S2048x64, .f32⟩
  | 88 => ⟨S_, .f32⟩
  | 89 => ⟨S2048, .f32⟩
  | 90 => ⟨S2048x64, .f32⟩
  | 91 => ⟨S_, .f32⟩
  | 92 => ⟨S2048, .f32⟩
  | 93 => ⟨S2048, .f32⟩
  | 94 => ⟨S_, .f32⟩
  | 95 => ⟨S2048, .f32⟩
  | 96 => ⟨S2048, .f32⟩
  | 97 => ⟨S2048, .f32⟩
  | 98 => ⟨S2048, .f32⟩
  | 99 => ⟨S2048x1, .f32⟩
  | 100 => ⟨S2048x64, .f32⟩
  | 101 => ⟨S2048x64, .f32⟩
  | 102 => ⟨S2048x1, .f32⟩
  | 103 => ⟨S2048x64, .f32⟩
  | 104 => ⟨S2048x64, .f32⟩
  | 105 => ⟨S2048x1, .i32⟩
  | 106 => ⟨S1x64, .i32⟩
  | 107 => ⟨S2048x64, .i32⟩
  | 108 => ⟨S2048x64, .i32⟩
  | 109 => ⟨S2048x64, .i1⟩
  | 110 => ⟨S2048x64, .f32⟩
  | 111 => ⟨S2048x1, .i32⟩
  | 112 => ⟨S1x64, .i32⟩
  | 113 => ⟨S2048x64, .i32⟩
  | 114 => ⟨S2048x64, .i32⟩
  | 115 => ⟨S2048x64, .i1⟩
  | 116 => ⟨S2048x64, .f32⟩
  | 117 => ⟨S2048x64x1, .f32⟩
  | 118 => ⟨S2048x1x64, .f32⟩
  | 119 => ⟨S2048x64x64, .f32⟩
  | 120 => ⟨S2048x64x64, .f32⟩
  | 121 => ⟨S2048x64x64, .f32⟩
  | 122 => ⟨S2048x64x1, .f32⟩
  | 123 => ⟨S2048x1x64, .f32⟩
  | 124 => ⟨S2048x64x64, .f32⟩
  | 125 => ⟨S2048x64x64, .f32⟩
  | 126 => ⟨S2048x64x64, .f32⟩
  | 127 => ⟨S2048x64x64, .f32⟩
  | _ => ⟨S2048x4096, .f32⟩

abbrev hbmTy0_1 (i : Nat) : BufTy := match i % 128 with
  | 0 => ⟨S_, .f32⟩
  | 1 => ⟨S2048x64x64, .f32⟩
  | 2 => ⟨S2048x64x64, .i1⟩
  | 3 => ⟨S2048x64x64, .i1⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_call0_c : Ref sig .tc := ⟨.hbm, 30, rfl⟩
abbrev main_call1_call0_v0 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_call2_call0_c : Ref sig .tc := ⟨.hbm, 36, rfl⟩
abbrev main_call2_call0_v0 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_cst_11 : Ref sig .tc := ⟨.hbm, 65, rfl⟩
abbrev main_v39 : Ref sig .tc := ⟨.hbm, 66, rfl⟩
abbrev main_cst_12 : Ref sig .tc := ⟨.hbm, 67, rfl⟩
abbrev main_v40 : Ref sig .tc := ⟨.hbm, 68, rfl⟩
abbrev main_c_13 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_14 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_15 : Ref sig .tc := ⟨.hbm, 80, rfl⟩
abbrev main_v50 : Ref sig .tc := ⟨.hbm, 81, rfl⟩
abbrev main_v51 : Ref sig .tc := ⟨.hbm, 82, rfl⟩
abbrev main_c_16 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_17 : Ref sig .tc := ⟨.hbm, 88, rfl⟩
abbrev main_v56 : Ref sig .tc := ⟨.hbm, 89, rfl⟩
abbrev main_v57 : Ref sig .tc := ⟨.hbm, 90, rfl⟩
abbrev main_cst_18 : Ref sig .tc := ⟨.hbm, 91, rfl⟩
abbrev main_v58 : Ref sig .tc := ⟨.hbm, 92, rfl⟩
abbrev main_v59 : Ref sig .tc := ⟨.hbm, 93, rfl⟩
abbrev main_cst_19 : Ref sig .tc := ⟨.hbm, 94, rfl⟩
abbrev main_call3_v0 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_v69 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_20 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩

abbrev nD : Nat := 1
abbrev τ : Topo := Topo.v7x

variable {F : FTy → Type} [FloatOps F]
-- ==== Proof.Reference.lean ====
module

public import proofs.«01_k».proof.Proof.Gen.ReferenceIdeal.Run
public import proofs.«01_k».proof.Proof.Gen.ReferenceIdeal.Read
public import Idealize.ShloMosaic.Adequacy
public import Idealize.ShloMosaic.Lib.QuiescentFlight

@[expose] public section

noncomputable section

namespace Cert.Ref

open Idealize.ShloMosaic Idealize.ShloMosaic.TcCoe Idealize.SL.Sem Cert.ReferenceIdeal

variable {F : FTy → Type} [FloatOps F]

/-- The reference runs to the end, leaves its arguments unchanged, and has no semaphore that could be left nonzero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c).2.2.2.2.1, (h c).2.2.2.2.2⟩, sem_eq_zero_of_no_sems (by decide) r.2⟩)
    (Cert.ReferenceIdeal.Value.run m ρ)

end Cert.Ref

end
-- ==== Proof.KernelBody.lean ====
/- The kernel's body run once, in each of its three cases: the first grid point, the other points of the first pass over
   the tokens, and the points of the second pass. Each run says what the scratch buffers and the outputs hold afterwards. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WritesUnit
public import Idealize.ShloMosaic.Lib.VecWindow

@[expose] public section

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-! ## What one block of tokens contributes -/

/-- The expert's number at every place of an experts × tokens block. -/
def eio : IVec S64x512 32 := iota .tc S64x512 32 [0] iota_S64x512_d0_w32

/-- The all-zero block the products start from. -/
def zeros : FVec F S64x512 .f32 := constant S64x512 .f32 0x00000000#32

/-- The six rows the first pass stores for a block of tokens `x`, with weights `w` and the counts `c1`, `c2` of the tokens
    routed before: first expert, second expert, first gate, second gate, and the two places in the experts' queues. -/
def rowsOf (x : Vec F S512x4096 .f32) (w : Vec F S64x4096 .f32) (c1 c2 : Vec F S64x1 .f32) : Fin 6 → Vec F S1x512 .f32 :=
  ![k0_pay23 (k0_pay13 eio x w), k0_pay24 (k0_pay17 eio x w), k0_pay25 (k0_pay12 x w), k0_pay26 (k0_pay16 eio x w),
    k0_pay27 (k0_pay18 eio x w) (k0_pay21 eio x w) c1, k0_pay4 (k0_pay28 (k0_pay19 eio x w) (k0_pay20 (F := F)) zeros c2)]

/-- The first-choice counts after a block. -/
def nextC1 (x : Vec F S512x4096 .f32) (w : Vec F S64x4096 .f32) (c1 : Vec F S64x1 .f32) : Vec F S64x1 .f32 :=
  k0_pay5 (k0_pay21 eio x w) c1
/-- The second-choice counts after a block. -/
def nextC2 (x : Vec F S512x4096 .f32) (w : Vec F S64x4096 .f32) (c2 : Vec F S64x1 .f32) : Vec F S64x1 .f32 :=
  k0_pay6 (k0_pay22 (k0_pay19 eio x w) (k0_pay20 (F := F)) zeros) c2
/-- The sums of the gates after a block. -/
def nextG (x : Vec F S512x4096 .f32) (w : Vec F S64x4096 .f32) (g : Vec F S64x1 .f32) : Vec F S64x1 .f32 :=
  k0_pay7 (k0_pay11 x w) g

/-- The second pass's combine weights for a block, from its six rows and the final first-choice counts. -/
def combOf (R : Fin 6 → Vec F S1x512 .f32) (n : Vec F S64x1 .f32) : Vec F S64x64x512 .f32 :=
  k0_pay8 (k0_pay29 (R 1)) (k0_pay30 (R 4)) (k0_pay31 eio (R 1) (R 5) n)
    (k0_pay35 eio (R 1) (R 2) (R 3) (R 4) (R 5) n) (k0_pay36 eio (R 1) (R 2) (R 3) (R 4) (R 5) n) eio (k0_pay37 eio (R 0))
    (Scalar.ofBits .f32 0x00000000#32)
/-- Its dispatch mask. -/
def maskOf (R : Fin 6 → Vec F S1x512 .f32) (n : Vec F S64x1 .f32) : IVec S64x64x512 8 :=
  k0_pay9 (k0_pay29 (R 1)) (k0_pay30 (R 4)) (k0_pay31 eio (R 1) (R 5) n)
    (k0_pay35 eio (R 1) (R 2) (R 3) (R 4) (R 5) n) (k0_pay36 eio (R 1) (R 2) (R 3) (R 4) (R 5) n) eio (k0_pay37 eio (R 0))
    (Scalar.ofBits .f32 0x00000000#32)

/-- The scratch `d` holds the rows `R` at the columns of block `b`. -/
def HoldsRows (d : Vec F S8x2048 .f32) (b : ℕ) (R : Fin 6 → Vec F S1x512 .f32) : Prop :=
  ∀ (r : Fin 6) (y : S8x2048.Idx) (x : S1x512.Idx), (y 0).val = r.val → (y 1).val = 512 * b + (x 1).val → d y = R r x

/-- `d'` is `d` outside the columns of block `b`. -/
def SameOutside (d d' : Vec F S8x2048 .f32) (b : ℕ) : Prop :=
  ∀ y : S8x2048.Idx, ((y 1).val < 512 * b ∨ 512 * b + 512 ≤ (y 1).val) → d' y = d y

section Pieces

variable {κ : Kind} {sp : Space} (v : View sig κ sp S8x2048 .f32) (f : v.ty.Contents (Elt F)) (b : ℕ)
  {o1 o2 o3 o4 o5 o6 : Fin 2 → ℕ}
  (i1 : ∀ a, o1 a + S1x512.size a ≤ S8x2048.size a) (i2 : ∀ a, o2 a + S1x512.size a ≤ S8x2048.size a)
  (i3 : ∀ a, o3 a + S1x512.size a ≤ S8x2048.size a) (i4 : ∀ a, o4 a + S1x512.size a ≤ S8x2048.size a)
  (i5 : ∀ a, o5 a + S1x512.size a ≤ S8x2048.size a) (i6 : ∀ a, o6 a + S1x512.size a ≤ S8x2048.size a)
  (w1 w2 w3 w4 w5 w6 : Vec F S1x512 .f32)

/-- The scratch after the six row stores of a block. -/
abbrev sixRows : Vec F S8x2048 .f32 :=
  v.read (Elt F) (v.writes (Elt F) f
    [⟨Rect.unit (s := S8x2048) o6 S1x512.size i6, w6⟩, ⟨Rect.unit (s := S8x2048) o5 S1x512.size i5, w5⟩,
      ⟨Rect.unit (s := S8x2048) o4 S1x512.size i4, w4⟩, ⟨Rect.unit (s := S8x2048) o3 S1x512.size i3, w3⟩,
      ⟨Rect.unit (s := S8x2048) o2 S1x512.size i2, w2⟩, ⟨Rect.unit (s := S8x2048) o1 S1x512.size i1, w1⟩])

/-- Six stores of rows 0 to 5 at the columns of block `b` leave those rows there. -/
theorem sixRows_holds (h1 : o1 = ![0, 512 * b]) (h2 : o2 = ![1, 512 * b]) (h3 : o3 = ![2, 512 * b]) (h4 : o4 = ![3, 512 * b])
    (h5 : o5 = ![4, 512 * b]) (h6 : o6 = ![5, 512 * b]) :
    HoldsRows (sixRows v f i1 i2 i3 i4 i5 i6 w1 w2 w3 w4 w5 w6) b ![w1, w2, w3, w4, w5, w6] := by
  intro r y x hy0 hy1
  have hx0 : (x 0).val = 0 := Nat.lt_one_iff.mp (x 0).isLt
  have hit : ∀ k : ℕ, (y 0).val = k → ∀ a, (y a).val = (![k, 512 * b] : Fin 2 → ℕ) a + (x a).val := fun k hk =>
    Fin.forall_fin_two.mpr ⟨by show (y 0).val = k + (x 0).val; omega, hy1⟩
  have off : ∀ k : ℕ, (y 0).val < k → (y 0).val < (![k, 512 * b] : Fin 2 → ℕ) 0 ∨ (![k, 512 * b] : Fin 2 → ℕ) 0 + S1x512.size 0 ≤ (y 0).val :=
    fun k hk => Or.inl hk
  unfold sixRows
  by_cases e6 : (y 0).val = 5
  · obtain rfl : r = 5 := Fin.ext (by rw [← hy0, e6]; rfl)
    exact View.read_writes_cons_unit_of_mem v f i6 w6 _ y x h6 (hit 5 e6)
  rw [View.read_writes_cons_unit_of_not_mem v f i6 w6 _ y h6 0 (off 5 (by omega))]
  by_cases e5 : (y 0).val = 4
  · obtain rfl : r = 4 := Fin.ext (by rw [← hy0, e5]; rfl)
    exact View.read_writes_cons_unit_of_mem v f i5 w5 _ y x h5 (hit 4 e5)
  rw [View.read_writes_cons_unit_of_not_mem v f i5 w5 _ y h5 0 (off 4 (by omega))]
  by_cases e4 : (y 0).val = 3
  · obtain rfl : r = 3 := Fin.ext (by rw [← hy0, e4]; rfl)
    exact View.read_writes_cons_unit_of_mem v f i4 w4 _ y x h4 (hit 3 e4)
  rw [View.read_writes_cons_unit_of_not_mem v f i4 w4 _ y h4 0 (off 3 (by omega))]
  by_cases e3 : (y 0).val = 2
  · obtain rfl : r = 2 := Fin.ext (by rw [← hy0, e3]; rfl)
    exact View.read_writes_cons_unit_of_mem v f i3 w3 _ y x h3 (hit 2 e3)
  rw [View.read_writes_cons_unit_of_not_mem v f i3 w3 _ y h3 0 (off 2 (by omega))]
  by_cases e2 : (y 0).val = 1
  · obtain rfl : r = 1 := Fin.ext (by rw [← hy0, e2]; rfl)
    exact View.read_writes_cons_unit_of_mem v f i2 w2 _ y x h2 (hit 1 e2)
  rw [View.read_writes_cons_unit_of_not_mem v f i2 w2 _ y h2 0 (off 1 (by omega))]
  obtain rfl : r = 0 := Fin.ext (by rw [← hy0]; show (y 0).val = 0; omega)
  exact View.read_writes_cons_unit_of_mem v f i1 w1 _ y x h1 (hit 0 (by omega))

/-- They leave every other column as it was. -/
theorem sixRows_outside (h1 : o1 = ![0, 512 * b]) (h2 : o2 = ![1, 512 * b]) (h3 : o3 = ![2, 512 * b]) (h4 : o4 = ![3, 512 * b])
    (h5 : o5 = ![4, 512 * b]) (h6 : o6 = ![5, 512 * b]) (d : Vec F S8x2048 .f32) (hd : v.read (Elt F) f = d) :
    SameOutside d (sixRows v f i1 i2 i3 i4 i5 i6 w1 w2 w3 w4 w5 w6) b := by
  intro y hy
  have off : ∀ k : ℕ, (y 1).val < (![k, 512 * b] : Fin 2 → ℕ) 1 ∨ (![k, 512 * b] : Fin 2 → ℕ) 1 + S1x512.size 1 ≤ (y 1).val :=
    fun k => hy
  unfold sixRows
  rw [View.read_writes_cons_unit_of_not_mem v f i6 w6 _ y h6 1 (off 5), View.read_writes_cons_unit_of_not_mem v f i5 w5 _ y h5 1 (off 4),
    View.read_writes_cons_unit_of_not_mem v f i4 w4 _ y h4 1 (off 3), View.read_writes_cons_unit_of_not_mem v f i3 w3 _ y h3 1 (off 2),
    View.read_writes_cons_unit_of_not_mem v f i2 w2 _ y h2 1 (off 1), View.read_writes_cons_unit_of_not_mem v f i1 w1 _ y h1 1 (off 0), ← hd]
  rfl

end Pieces

/-- A row loaded from a scratch that holds it. -/
theorem load_row {arg8 : Memref sig .tc .vmem S8x2048 .f32} (harg8 : arg8.IsWhole) (d : Vec F S8x2048 .f32) (b : ℕ)
    (R : Fin 6 → Vec F S1x512 .f32) (hR : HoldsRows d b R) {o : Fin 2 → ℕ} (inb : ∀ a, o a + S1x512.size a ≤ S8x2048.size a)
    (r : Fin 6) (ho : o = ![r.val, 512 * b]) :
    (arg8.view.readAt (Elt F) (Rect.unit (s := S8x2048) o S1x512.size inb).toLoadRect (harg8.unread d) : Vec F S1x512 .f32) = R r := by
  subst ho
  rw [View.readAt_unit arg8.view _ inb rfl inb, harg8.read_unread]
  funext x
  have hx0 : (x 0).val = 0 := Nat.lt_one_iff.mp (x 0).isLt
  refine hR r _ x ?_ ?_
  · show r.val + 1 * (x 0).val = r.val; omega
  · show 512 * b + 1 * (x 1).val = 512 * b + (x 1).val; omega

/-- The first grid point's test, as the kernel computes it. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-! ## The three runs -/

section Runs

variable (c : Dev nD) (i : grid0.Coords)
  (arg2 : Memref sig .tc .vmem S512x4096 .f32) (harg2 : arg2.IsWhole) (arg3 : Memref sig .tc .vmem S64x4096 .f32) (harg3 : arg3.IsWhole)
  (arg4 : Memref sig .tc .vmem S64x64x512 .f32) (harg4 : arg4.IsWhole) (arg5 : Memref sig .tc .vmem S64x64x512 .i8) (harg5 : arg5.IsWhole)
  (arg6 : Memref sig .tc .vmem S64x1 .i32) (harg6 : arg6.IsWhole) (arg7 : Memref sig .tc .vmem S64x1 .f32) (harg7 : arg7.IsWhole)
  (arg8 : Memref sig .tc .vmem S8x2048 .f32) (harg8 : arg8.IsWhole) (arg9 : Memref sig .tc .vmem S64x1 .f32) (harg9 : arg9.IsWhole)
  (arg10 : Memref sig .tc .vmem S64x1 .f32) (harg10 : arg10.IsWhole) (arg11 : Memref sig .tc .vmem S64x1 .f32) (harg11 : arg11.IsWhole)
  (x0 : Vec F S512x4096 .f32) (x1 : Vec F S64x4096 .f32)
  (d2 : Vec F S64x64x512 .f32) (d3 : Vec F S64x64x512 .i8) (d4 : Vec F S64x1 .i32) (d5 : Vec F S64x1 .f32)
  (xs0 : Vec F S8x2048 .f32) (xs1 xs2 xs3 : Vec F S64x1 .f32)

/-- The scratch after a point of the first pass: the block's rows stored, the other columns kept, the counts moved on. -/
def firstPost (x0 : Vec F S512x4096 .f32) (x1 : Vec F S64x4096 .f32) (xs0 : Vec F S8x2048 .f32) (c1 c2 g : Vec F S64x1 .f32) : sProp 𝕄 :=
  iprop((∃ d, ⌜HoldsRows d (i 1).val (rowsOf x0 x1 c1 c2) ∧ SameOutside xs0 d (i 1).val⌝ ∗ owns (c : Thread nD τ) arg8 fullShare d)
    ∗ owns (c : Thread nD τ) arg9 fullShare (nextC1 x0 x1 c1) ∗ owns (c : Thread nD τ) arg10 fullShare (nextC2 x0 x1 c2)
    ∗ owns (c : Thread nD τ) arg11 fullShare (nextG x0 x1 g))

set_option maxHeartbeats 2400000 in
/-- The first point: the counts start at zero. -/
theorem runA (hc0 : cond0 i) (hc1 : k0_cond2 i = 1#1) (hc2 : ¬k0_cond3 i = 1#1) (E : Set ℕ) (K : PUnit → sProp 𝕄) :
    iprop(owns (c : Thread nD τ) arg2 fullShare x0 ∗ owns (c : Thread nD τ) arg3 fullShare x1
        ∗ owns (c : Thread nD τ) arg4 fullShare d2 ∗ owns (c : Thread nD τ) arg5 fullShare d3
        ∗ owns (c : Thread nD τ) arg6 fullShare d4 ∗ owns (c : Thread nD τ) arg7 fullShare d5
        ∗ owns (c : Thread nD τ) arg8 fullShare xs0 ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1
            ∗ owns (c : Thread nD τ) arg4 fullShare d2 ∗ owns (c : Thread nD τ) arg5 fullShare d3
            ∗ owns (c : Thread nD τ) arg6 fullShare d4 ∗ owns (c : Thread nD τ) arg7 fullShare d5
            ∗ firstPost c i arg8 arg9 arg10 arg11 x0 x1 xs0 k0_pay1 k0_pay2 k0_pay3) -∗ K ⟨⟩))
      ⊢ wp frame (wpE (defs₀ (F := F)) Variants.none c none) E (cc0__gate_body i arg2 harg2 arg3 harg3 arg4 harg4 arg5 harg5 arg6 harg6 arg7 harg7 arg8 harg8 arg9 harg9 arg10 harg10 arg11 harg11) K := by
  simp only [cc0__gate_body_eq_skeleton]; unfold cc0__gate_body_skel
  simp only [k0_part1_eq_skeleton, k0_part2_eq_skeleton]
  unfold firstPost owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, ⟨%ds2, %fs2, -, HS2⟩, ⟨%ds3, %fs3, -, HS3⟩, Hk⟩
  obtain rfl := harg2.eq_unread hf0; obtain rfl := harg3.eq_unread hf1
  obtain rfl := harg8.eq_unread hfs0
  sl_exec (disch := first | sl_exact hc0 | sl_exact hc1 | sl_exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  have e2 : View.readAt (Elt F) arg2.view (Rect.unit (s := S512x4096) ![0, 0] S512x4096.size inb_S512x4096_S512x4096_0_0).toLoadRect (harg2.unread x0) = x0 :=
    (View.readAt_full arg2.view _ _).trans hf0
  have e3 : View.readAt (Elt F) arg3.view (Rect.unit (s := S64x4096) ![0, 0] S64x4096.size inb_S64x4096_S64x4096_0_0).toLoadRect (harg3.unread x1) = x1 :=
    (View.readAt_full arg3.view _ _).trans hf1
  isplitl [HS0]
  · iexists _; isplitr
    swap; · iexists _; isplitr; swap; · iexact HS0
            ipureintro; rfl
    ipureintro
    refine ⟨(congrArg (HoldsRows _ _) ?_).mp (sixRows_holds arg8.view _ (i 1).val (k0_off1_inb i hc1) (k0_off2_inb i hc1) (k0_off3_inb i hc1)
        (k0_off4_inb i hc1) (k0_off5_inb i hc1) (k0_off6_inb i hc1) _ _ _ _ _ _
        (k0_off1_eq i) (k0_off2_eq i) (k0_off3_eq i) (k0_off4_eq i) (k0_off5_eq i) (k0_off6_eq i)), ?_⟩
    · refine (show _ = rowsOf _ _ _ _ from rfl).trans ((congrArg₂ (fun a b => rowsOf a b _ _) e2 e3).trans (congrArg₂ (rowsOf x0 x1) ?_ ?_))
      · exact View.readCov_full arg9.view inb_S64x1_S64x1_0_0 inb_S64x1_S64x1_0_0 _ _
      · exact View.readCov_full arg10.view inb_S64x1_S64x1_0_0 inb_S64x1_S64x1_0_0 _ _
    · exact sixRows_outside arg8.view _ (i 1).val (k0_off1_inb i hc1) (k0_off2_inb i hc1) (k0_off3_inb i hc1)
        (k0_off4_inb i hc1) (k0_off5_inb i hc1) (k0_off6_inb i hc1) _ _ _ _ _ _
        (k0_off1_eq i) (k0_off2_eq i) (k0_off3_eq i) (k0_off4_eq i) (k0_off5_eq i) (k0_off6_eq i) xs0 hfs0
  isplitl [HS1]
  · iexists _; isplitr; swap; · iexact HS1
    ipureintro
    refine (View.read_writes_full arg9.view _ inb_S64x1_S64x1_0_0 _ _).trans ?_
    refine (show _ = nextC1 _ _ _ from rfl).trans ((congrArg₂ (fun a b => nextC1 a b _) e2 e3).trans (congrArg (nextC1 x0 x1) ?_))
    exact View.readCov_full arg9.view inb_S64x1_S64x1_0_0 inb_S64x1_S64x1_0_0 _ _
  isplitl [HS2]
  · iexists _; isplitr; swap; · iexact HS2
    ipureintro
    refine (View.read_writes_full arg10.view _ inb_S64x1_S64x1_0_0 _ _).trans ?_
    refine (show _ = nextC2 _ _ _ from rfl).trans ((congrArg₂ (fun a b => nextC2 a b _) e2 e3).trans (congrArg (nextC2 x0 x1) ?_))
    exact View.readCov_full arg10.view inb_S64x1_S64x1_0_0 inb_S64x1_S64x1_0_0 _ _
  · iexists _; isplitr; swap; · iexact HS3
    ipureintro
    refine (View.read_writes_full arg11.view _ inb_S64x1_S64x1_0_0 _ _).trans ?_
    refine (show _ = nextG _ _ _ from rfl).trans ((congrArg₂ (fun a b => nextG a b _) e2 e3).trans (congrArg (nextG x0 x1) ?_))
    exact View.readCov_full arg11.view inb_S64x1_S64x1_0_0 inb_S64x1_S64x1_0_0 _ _

set_option maxHeartbeats 2400000 in
/-- The other points of the first pass. -/
theorem runB (hc0 : ¬cond0 i) (hc1 : k0_cond2 i = 1#1) (hc2 : ¬k0_cond3 i = 1#1) (E : Set ℕ) (K : PUnit → sProp 𝕄) :
    iprop(owns (c : Thread nD τ) arg2 fullShare x0 ∗ owns (c : Thread nD τ) arg3 fullShare x1
        ∗ owns (c : Thread nD τ) arg4 fullShare d2 ∗ owns (c : Thread nD τ) arg5 fullShare d3
        ∗ owns (c : Thread nD τ) arg6 fullShare d4 ∗ owns (c : Thread nD τ) arg7 fullShare d5
        ∗ owns (c : Thread nD τ) arg8 fullShare xs0 ∗ owns (c : Thread nD τ) arg9 fullShare xs1
        ∗ owns (c : Thread nD τ) arg10 fullShare xs2 ∗ owns (c : Thread nD τ) arg11 fullShare xs3
        ∗ (iprop(owns (c : Thread nD τ) arg2 fullShare x0 ∗ owns (c : Thread nD τ) arg3 fullShare x1
            ∗ owns (c : Thread nD τ) arg4 fullShare d2 ∗ owns (c : Thread nD τ) arg5 fullShare d3
            ∗ owns (c : Thread nD τ) arg6 fullShare d4 ∗ owns (c : Thread nD τ) arg7 fullShare d5
            ∗ firstPost c i arg8 arg9 arg10 arg11 x0 x1 xs0 xs1 xs2 xs3) -∗ K ⟨⟩))
      ⊢ wp frame (wpE (defs₀ (F := F)) Variants.none c none) E (cc0__gate_body i arg2 harg2 arg3 harg3 arg4 harg4 arg5 harg5 arg6 harg6 arg7 harg7 arg8 harg8 arg9 harg9 arg10 harg10 arg11 harg11) K := by
  simp only [cc0__gate_body_eq_skeleton]; unfold cc0__gate_body_skel
  simp only [k0_part1_eq_skeleton, k0_part2_eq_skeleton]
  unfold firstPost owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1
  obtain rfl := harg8.eq_unread hfs0; obtain rfl := harg9.eq_unread hfs1; obtain rfl := harg10.eq_unread hfs2; obtain rfl := harg11.eq_unread hfs3
  sl_exec (disch := first | sl_exact hc0 | sl_exact hc1 | sl_exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  have e2 : View.readAt (Elt F) arg2.view (Rect.unit (s := S512x4096) ![0, 0] S512x4096.size inb_S512x4096_S512x4096_0_0).toLoadRect (harg2.unread x0) = x0 :=
    (View.readAt_full arg2.view _ _).trans hf0
  have e3 : View.readAt (Elt F) arg3.view (Rect.unit (s := S64x4096) ![0, 0] S64x4096.size inb_S64x4096_S64x4096_0_0).toLoadRect (harg3.unread x1) = x1 :=
    (View.readAt_full arg3.view _ _).trans hf1
  isplitl [HS0]
  · iexists _; isplitr
    swap; · iexists _; isplitr; swap; · iexact HS0
            ipureintro; rfl
    ipureintro
    refine ⟨(congrArg (HoldsRows _ _) ?_).mp (sixRows_holds arg8.view _ (i 1).val (k0_off1_inb i hc1) (k0_off2_inb i hc1) (k0_off3_inb i hc1)
        (k0_off4_inb i hc1) (k0_off5_inb i hc1) (k0_off6_inb i hc1) _ _ _ _ _ _
        (k0_off1_eq i) (k0_off2_eq i) (k0_off3_eq i) (k0_off4_eq i) (k0_off5_eq i) (k0_off6_eq i)), ?_⟩
    · refine (show _ = rowsOf _ _ _ _ from rfl).trans ((congrArg₂ (fun a b => rowsOf a b _ _) e2 e3).trans (congrArg₂ (rowsOf x0 x1) ?_ ?_))
      · exact (View.readAt_full arg9.view _ inb_S64x1_S64x1_0_0).trans hfs1
      · exact (View.readAt_full arg10.view _ inb_S64x1_S64x1_0_0).trans hfs2
    · exact sixRows_outside arg8.view _ (i 1).val (k0_off1_inb i hc1) (k0_off2_inb i hc1) (k0_off3_inb i hc1)
        (k0_off4_inb i hc1) (k0_off5_inb i hc1) (k0_off6_inb i hc1) _ _ _ _ _ _
        (k0_off1_eq i) (k0_off2_eq i) (k0_off3_eq i) (k0_off4_eq i) (k0_off5_eq i) (k0_off6_eq i) xs0 hfs0
  isplitl [HS1]
  · iexists _; isplitr; swap; · iexact HS1
    ipureintro
    refine (View.read_writes_full arg9.view _ inb_S64x1_S64x1_0_0 _ _).trans ?_
    refine (show _ = nextC1 _ _ _ from rfl).trans ((congrArg₂ (fun a b => nextC1 a b _) e2 e3).trans (congrArg (nextC1 x0 x1) ?_))
    exact (View.readAt_full arg9.view _ inb_S64x1_S64x1_0_0).trans hfs1
  isplitl [HS2]
  · iexists _; isplitr; swap; · iexact HS2
    ipureintro
    refine (View.read_writes_full arg10.view _ inb_S64x1_S64x1_0_0 _ _).trans ?_
    refine (show _ = nextC2 _ _ _ from rfl).trans ((congrArg₂ (fun a b => nextC2 a b _) e2 e3).trans (congrArg (nextC2 x0 x1) ?_))
    exact (View.readAt_full arg10.view _ inb_S64x1_S64x1_0_0).trans hfs2
  · iexists _; isplitr; swap; · iexact HS3
    ipureintro
    refine (View.read_writes_full arg11.view _ inb_S64x1_S64x1_0_0 _ _).trans ?_
    refine (show _ = nextG _ _ _ from rfl).trans ((congrArg₂ (fun a b => nextG a b _) e2 e3).trans (congrArg (nextG x0 x1) ?_))
    exact (View.readAt_full arg11.view _ inb_S64x1_S64x1_0_0).trans hfs3

set_option maxHeartbeats 800000 in
/-- A point of the second pass, its block's rows in the scratch. -/
theorem runC (hc0 : ¬cond0 i) (hc1 : ¬k0_cond2 i = 1#1) (hc2 : k0_cond3 i = 1#1) (R : Fin 6 → Vec F S1x512 .f32)
    (hR : HoldsRows xs0 (i 1).val R) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1
        ∗ owns (c : Thread nD τ) arg10 fullShare xs2 ∗ owns (c : Thread nD τ) arg11 fullShare xs3
        ∗ (iprop(owns (c : Thread nD τ) arg2 fullShare x0 ∗ owns (c : Thread nD τ) arg3 fullShare x1
            ∗ owns (c : Thread nD τ) arg4 fullShare (combOf R xs1) ∗ owns (c : Thread nD τ) arg5 fullShare (maskOf R xs1)
            ∗ owns (c : Thread nD τ) arg6 fullShare (k0_pay10 xs1) ∗ owns (c : Thread nD τ) arg7 fullShare xs3
            ∗ owns (c : Thread nD τ) arg8 fullShare xs0 ∗ owns (c : Thread nD τ) arg9 fullShare xs1
            ∗ owns (c : Thread nD τ) arg10 fullShare xs2 ∗ owns (c : Thread nD τ) arg11 fullShare xs3) -∗ K ⟨⟩))
      ⊢ wp frame (wpE (defs₀ (F := F)) Variants.none c none) E (cc0__gate_body i arg2 harg2 arg3 harg3 arg4 harg4 arg5 harg5 arg6 harg6 arg7 harg7 arg8 harg8 arg9 harg9 arg10 harg10 arg11 harg11) K := by
  simp only [cc0__gate_body_eq_skeleton]; unfold cc0__gate_body_skel
  simp only [k0_part3_eq_skeleton]
  have l0 := load_row harg8 xs0 _ R hR (k0_off7_inb i hc2) 0 (k0_off7_eq i)
  have l1 := load_row harg8 xs0 _ R hR (k0_off8_inb i hc2) 1 (k0_off8_eq i)
  have l2 := load_row harg8 xs0 _ R hR (k0_off9_inb i hc2) 2 (k0_off9_eq i)
  have l3 := load_row harg8 xs0 _ R hR (k0_off10_inb i hc2) 3 (k0_off10_eq i)
  have l4 := load_row harg8 xs0 _ R hR (k0_off11_inb i hc2) 4 (k0_off11_eq i)
  have l5 := load_row harg8 xs0 _ R hR (k0_off12_inb i hc2) 5 (k0_off12_eq i)
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1
  obtain rfl := harg8.eq_unread hfs0; obtain rfl := harg9.eq_unread hfs1; obtain rfl := harg10.eq_unread hfs2; obtain rfl := harg11.eq_unread hfs3
  sl_exec (disch := first | sl_exact hc0 | sl_exact hc1 | sl_exact hc2)
  sl_step
  iapply Hk
  have e9 : View.readAt (Elt F) arg9.view (Rect.unit (s := S64x1) ![0, 0] S64x1.size inb_S64x1_S64x1_0_0).toLoadRect (harg9.unread xs1) = xs1 :=
    (View.readAt_full arg9.view _ _).trans hfs1
  isplitl [H0]; · iexists _; isplitr; · ipureintro; exact hf0
                  iexact H0
  isplitl [H1]; · iexists _; isplitr; · ipureintro; exact hf1
                  iexact H1
  isplitl [H2]
  · iexists _; isplitr; swap; · iexact H2
    ipureintro
    refine (View.read_writes_full arg4.view _ inb_S64x64x512_S64x64x512_0_0_0 _ _).trans (Eq.trans ?_ (congrArg (combOf R) e9))
    rfl
  isplitl [H3]
  · iexists _; isplitr; swap; · iexact H3
    ipureintro
    refine (View.read_writes_full arg5.view _ inb_S64x64x512_S64x64x512_0_0_0 _ _).trans (Eq.trans ?_ (congrArg (maskOf R) e9))
    rfl
  isplitl [H4]
  · iexists _; isplitr; swap; · iexact H4
    ipureintro
    exact (View.read_writes_full arg6.view _ inb_S64x1_S64x1_0_0 _ _).trans (congrArg k0_pay10 e9)
  isplitl [H5]
  · iexists _; isplitr; swap; · iexact H5
    ipureintro
    exact (View.read_writes_full arg7.view _ inb_S64x1_S64x1_0_0 _ _).trans ((View.readAt_full arg11.view _ _).trans hfs3)
  isplitl [HS0]; · iexists _; isplitr; · ipureintro; exact hfs0
                   iexact HS0
  isplitl [HS1]; · iexists _; isplitr; · ipureintro; exact hfs1
                   iexact HS1
  isplitl [HS2]; · iexists _; isplitr; · ipureintro; exact hfs2
                   iexact HS2
  iexists _; isplitr; · ipureintro; exact hfs3
  iexact HS3

end Runs

end Cert.KRun

end
-- ==== Proof.KernelRun.lean ====
/- The launch: what the grid's points pass on to one another, the body at every point, and the run of the whole program. -/
module

public import proofs.«01_k».proof.Proof.KernelBody
public import Idealize.ShloMosaic.Lib.Claim

@[expose] public section

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points pass on -/

/-- The grid point of a number (only numbers below eight are used). -/
def pt (b : ℕ) : Fin cfg0.N := ⟨b % 8, by rw [show cfg0.N = 8 from N_0]; omega⟩

/-- The grid point of a point's own number. -/
theorem pt_val (t : Fin cfg0.N) : pt t.val = t :=
  Fin.ext (Nat.mod_eq_of_lt (lt_of_lt_of_eq t.isLt (show cfg0.N = 8 from N_0)))

/-- The tokens a point works on. -/
def xB (c : Dev nD) (b : ℕ) : Vec F S512x4096 .f32 := iblk m c 0 (pt b)
/-- The weights a point works with. -/
def wB (c : Dev nD) (b : ℕ) : Vec F S64x4096 .f32 := iblk m c 1 (pt b)

/-- The two running counts and the running sum of the gates, before point `n`. -/
def carr (c : Dev nD) : ℕ → Vec F S64x1 .f32 × Vec F S64x1 .f32 × Vec F S64x1 .f32
  | 0 => (k0_pay1, k0_pay2, k0_pay3)
  | n + 1 => if n < 4 then (nextC1 (xB m c n) (wB m c n) (carr c n).1, nextC2 (xB m c n) (wB m c n) (carr c n).2.1,
      nextG (xB m c n) (wB m c n) (carr c n).2.2) else carr c n

/-- One point of the first pass moves the counts and the sums on. -/
theorem carr_first (c : Dev nD) (n : ℕ) (h : n < 4) :
    carr m c (n + 1) = (nextC1 (xB m c n) (wB m c n) (carr m c n).1, nextC2 (xB m c n) (wB m c n) (carr m c n).2.1,
      nextG (xB m c n) (wB m c n) (carr m c n).2.2) := by
  rw [carr, if_pos h]

/-- From the second pass on nothing moves. -/
theorem carr_late (c : Dev nD) : ∀ n : ℕ, carr m c (n + 4) = carr m c 4
  | 0 => rfl
  | n + 1 => by
      have h : carr m c (n + 1 + 4) = if n + 4 < 4 then _ else carr m c (n + 4) := rfl
      rw [h, if_neg (by omega), carr_late c n]

/-- The same at a number of at least 4. -/
theorem carr_late' (c : Dev nD) (n : ℕ) (h : 4 ≤ n) : carr m c n = carr m c 4 := by
  obtain ⟨k, rfl⟩ := Nat.exists_eq_add_of_le h
  rw [Nat.add_comm]; exact carr_late m c k

/-- The six rows of block `b`. -/
def rowsB (c : Dev nD) (b : ℕ) : Fin 6 → Vec F S1x512 .f32 :=
  rowsOf (xB m c b) (wB m c b) (carr m c b).1 (carr m c b).2.1

/-! ## The body's tests at a point -/

/-- The block that a point works on. -/
theorem coord1 (t : Fin cfg0.N) : (grid0.coords t 1).val = t.val % 4 := by
  have e1 : (grid0.coords t 1).val = t.val / 1 % 4 := Pipeline.Grid.coords_val t 1 (by decide) rfl
  rw [e1, Nat.div_one]

/-- The first test holds at the first point only. -/
theorem hcond0 (t : Fin cfg0.N) : cond0 (grid0.coords t) ↔ t.val % 8 = 0 := by
  have ht : t.val < 8 := Nat.lt_of_lt_of_eq t.isLt N_0
  have e0 : (grid0.coords t 0).val = t.val / 4 % 2 := Pipeline.Grid.coords_val t 0 (by decide) rfl
  have e1 : (grid0.coords t 1).val = t.val / 1 % 4 := Pipeline.Grid.coords_val t 1 (by decide) rfl
  simp only [cond0, e0, e1]
  word_cmp

/-- The second test holds in the first pass. -/
theorem hcond1 (t : Fin cfg0.N) : k0_cond2 (grid0.coords t) = 1#1 ↔ t.val < 4 := by
  have ht : t.val < 8 := Nat.lt_of_lt_of_eq t.isLt N_0
  have e0 : (grid0.coords t 0).val = t.val / 4 % 2 := Pipeline.Grid.coords_val t 0 (by decide) rfl
  have e1 : (grid0.coords t 1).val = t.val / 1 % 4 := Pipeline.Grid.coords_val t 1 (by decide) rfl
  simp only [k0_cond2, e0, e1]
  word_cmp

/-- The third test holds in the second pass. -/
theorem hcond2 (t : Fin cfg0.N) : k0_cond3 (grid0.coords t) = 1#1 ↔ 4 ≤ t.val := by
  have ht : t.val < 8 := Nat.lt_of_lt_of_eq t.isLt N_0
  have e0 : (grid0.coords t 0).val = t.val / 4 % 2 := Pipeline.Grid.coords_val t 0 (by decide) rfl
  have e1 : (grid0.coords t 1).val = t.val / 1 % 4 := Pipeline.Grid.coords_val t 1 (by decide) rfl
  simp only [k0_cond3, e0, e1]
  word_cmp

/-- In the first pass no output is touched. -/
theorem idle_first : ∀ t : Fin cfg0.N, ∀ w : Fin 6, 2 ≤ w.val → t.val < 4 →
    cfg0.idle w (cfg0.grid.coords t) = true ∧ (cfg0.win w).flush t = false := by decide +kernel

/-- In the second pass every output is written. -/
theorem live_second : ∀ t : Fin cfg0.N, ∀ w : Fin 6, 4 ≤ t.val → cfg0.idle w (cfg0.grid.coords t) = false := by decide +kernel

/-! ## The launch's buffers -/

/-- The buffer of the tokens at a point. -/
abbrev ms0 (t : Fin cfg0.N) : Memref sig .tc .vmem S512x4096 .f32 := win0_0.stage (cfg0.slots t 0)
/-- The buffer of the weights at a point. -/
abbrev ms1 (t : Fin cfg0.N) : Memref sig .tc .vmem S64x4096 .f32 := win0_1.stage (cfg0.slots t 1)
/-- The buffer of the combined weights at a point. -/
abbrev ms2 (t : Fin cfg0.N) : Memref sig .tc .vmem S64x64x512 .f32 := win0_2.stage (cfg0.slots t 2)
/-- The buffer of the mask at a point. -/
abbrev ms3 (t : Fin cfg0.N) : Memref sig .tc .vmem S64x64x512 .i8 := win0_3.stage (cfg0.slots t 3)
/-- The buffer of the counts at a point. -/
abbrev ms4 (t : Fin cfg0.N) : Memref sig .tc .vmem S64x1 .i32 := win0_4.stage (cfg0.slots t 4)
/-- The buffer of the gates' sums at a point. -/
abbrev ms5 (t : Fin cfg0.N) : Memref sig .tc .vmem S64x1 .f32 := win0_5.stage (cfg0.slots t 5)
/-- The scratch array of the rows. -/
abbrev sc0 : Memref sig .tc .vmem S8x2048 .f32 := Memref.whole cc0_scratch0
/-- The scratch array of the counts of first choices. -/
abbrev sc1 : Memref sig .tc .vmem S64x1 .f32 := Memref.whole cc0_scratch1
/-- The scratch array of the counts of second choices. -/
abbrev sc2 : Memref sig .tc .vmem S64x1 .f32 := Memref.whole cc0_scratch2
/-- The scratch array of the gates' sums. -/
abbrev sc3 : Memref sig .tc .vmem S64x1 .f32 := Memref.whole cc0_scratch3

/-- What the body holds before the first point: the four scratch arrays with anything in them. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The rows of the blocks before `n` are in the scratch. -/
def RowsBefore (c : Dev nD) (n : ℕ) (d : Vec F S8x2048 .f32) : Prop :=
  ∀ b : ℕ, b < 4 → b < n → HoldsRows d b (rowsB m c b)

/-- Between points: before the first anything; later the rows stored so far and the running counts. -/
def PhiS (c : Dev nD) : ℕ → sProp 𝕄
  | 0 => Pipeline.ΦA spec0 c
  | n + 1 => iprop(iprop((∃ d, ⌜RowsBefore m c (n + 1) d⌝ ∗ owns (c : Thread nD τ) sc0 fullShare d)
      ∗ owns (c : Thread nD τ) sc1 fullShare (carr m c (n + 1)).1 ∗ owns (c : Thread nD τ) sc2 fullShare (carr m c (n + 1)).2.1
      ∗ owns (c : Thread nD τ) sc3 fullShare (carr m c (n + 1)).2.2) ∗ (∃ r, prngReg c r))

/-- What holds after a point. -/
theorem PhiS_succ (c : Dev nD) (n : ℕ) :
    PhiS m c (n + 1) = iprop(iprop((∃ d, ⌜RowsBefore m c (n + 1) d⌝ ∗ owns (c : Thread nD τ) sc0 fullShare d)
      ∗ owns (c : Thread nD τ) sc1 fullShare (carr m c (n + 1)).1 ∗ owns (c : Thread nD τ) sc2 fullShare (carr m c (n + 1)).2.1
      ∗ owns (c : Thread nD τ) sc3 fullShare (carr m c (n + 1)).2.2) ∗ (∃ r, prngReg c r)) := rfl

/-- What holds before a point that is not the first. -/
theorem PhiS_pos (c : Dev nD) (n : ℕ) (h : n ≠ 0) :
    PhiS m c n = iprop(iprop((∃ d, ⌜RowsBefore m c n d⌝ ∗ owns (c : Thread nD τ) sc0 fullShare d)
      ∗ owns (c : Thread nD τ) sc1 fullShare (carr m c n).1 ∗ owns (c : Thread nD τ) sc2 fullShare (carr m c n).2.1
      ∗ owns (c : Thread nD τ) sc3 fullShare (carr m c n).2.2) ∗ (∃ r, prngReg c r)) := by
  cases n with
  | zero => exact absurd rfl h
  | succ n => rfl

/-- The launch's data: the inputs keep their blocks; a point of the second pass leaves its block of combine weights and
    of the mask, the counts and the sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => combOf (rowsB m c (t.val % 4)) (carr m c 4).1
    | ⟨3, _⟩ => maskOf (rowsB m c (t.val % 4)) (carr m c 4).1
    | ⟨4, _⟩ => k0_pay10 (carr m c 4).1
    | ⟨5, _⟩ => (carr m c 4).2.2
  Φ t := PhiS m c t.val
  q _ := fullShare
  owed _ := 0

/-- The arrays that the launch begins with. -/
theorem A_eq (c : Dev nD) (w : Fin cfg0.W) : (dats m 0 c).A w = V m c (Pipeline.arrRef spec0 w) := by
  dsimp only [dats]

/-- What holds before a point, by its number. -/
theorem PhiS_castSucc (c : Dev nD) (t : Fin cfg0.N) : (dats m 0 c).Φ t.castSucc = PhiS m c t.val := rfl

/-- The tokens are left as they are. -/
theorem after0 (c : Dev nD) (t : Fin cfg0.N) : (dats m 0 c).after 0 t = iblk m c 0 t := by dsimp only [dats]
/-- The weights are left as they are. -/
theorem after1 (c : Dev nD) (t : Fin cfg0.N) : (dats m 0 c).after 1 t = iblk m c 1 t := by dsimp only [dats]
/-- The block of combined weights that a point leaves. -/
theorem after2 (c : Dev nD) (t : Fin cfg0.N) : (dats m 0 c).after 2 t = combOf (rowsB m c (t.val % 4)) (carr m c 4).1 := by dsimp only [dats]
/-- The block of the mask that a point leaves. -/
theorem after3 (c : Dev nD) (t : Fin cfg0.N) : (dats m 0 c).after 3 t = maskOf (rowsB m c (t.val % 4)) (carr m c 4).1 := by dsimp only [dats]
/-- The counts that a point leaves. -/
theorem after4 (c : Dev nD) (t : Fin cfg0.N) : (dats m 0 c).after 4 t = k0_pay10 (carr m c 4).1 := by dsimp only [dats]
/-- The gates' sums that a point leaves. -/
theorem after5 (c : Dev nD) (t : Fin cfg0.N) : (dats m 0 c).after 5 t = (carr m c 4).2.2 := by dsimp only [dats]

/-- The tokens a point finds. -/
theorem before0 (c : Dev nD) (t : Fin cfg0.N) (d) : (dats m 0 c).before 0 t d = iblk m c 0 t :=
  before0_0_of m (dats m 0 c) (A_eq m c 0) (after0 m c) t d
/-- The weights a point finds. -/
theorem before1 (c : Dev nD) (t : Fin cfg0.N) (d) : (dats m 0 c).before 1 t d = iblk m c 1 t :=
  before0_1_of m (dats m 0 c) (A_eq m c 1) (after1 m c) t d

/-- An input's buffer after a point. -/
theorem leaves_in0 (c : Dev nD) (t : Fin cfg0.N) :
    (dats m 0 c).leavesExact 0 t = owns (c : Thread nD τ) (ms0 t) fullShare (iblk m c 0 t) := by
  rw [← after0]
/-- A point leaves the buffer of the weights as it found it. -/
theorem leaves_in1 (c : Dev nD) (t : Fin cfg0.N) :
    (dats m 0 c).leavesExact 1 t = owns (c : Thread nD τ) (ms1 t) fullShare (iblk m c 1 t) := by
  rw [← after1]

/-- A window's buffer after a point of the second pass. -/
theorem leaves_second (c : Dev nD) (t : Fin cfg0.N) (w : Fin cfg0.W) (h : 4 ≤ t.val) :
    (dats m 0 c).leavesExact w t = owns (c : Thread nD τ) ((cfg0.win w).stage (cfg0.slots t w)) fullShare ((dats m 0 c).after w t) := by
  unfold Dat.leavesExact; rw [live_second t w h]

/-- An output's buffer after a point of the first pass. -/
theorem leaves_first (c : Dev nD) (t : Fin cfg0.N) (w : Fin cfg0.W) (hw : 2 ≤ w.val) (h : t.val < 4) :
    (dats m 0 c).leavesExact w t
      = iprop(∃ d, owns (c : Thread nD τ) ((cfg0.win w).stage (cfg0.slots t w)) fullShare ((dats m 0 c).before w t d)) :=
  Dat.leavesExact_idle _ w t (idle_first t w hw h).1 (idle_first t w hw h).2

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- The rows after a point of the first pass. -/
theorem rows_first (c : Dev nD) (t : Fin cfg0.N) (h1 : t.val < 4) (d d' : Vec F S8x2048 .f32)
    (hd : RowsBefore m c t.val d) (hR : HoldsRows d' (grid0.coords t 1).val (rowsB m c t.val))
    (ho : SameOutside d d' (grid0.coords t 1).val) : RowsBefore m c (t.val + 1) d' := by
  rw [coord1, Nat.mod_eq_of_lt h1] at hR ho
  intro b hb hbt
  by_cases e : b = t.val
  · subst e; exact hR
  · intro r y x h0 h1'
    have hx : (x 1).val < 512 := (x 1).isLt
    rw [ho y (by omega)]
    exact hd b hb (by omega) r y x h0 h1'

/-- The rows of a point's block, by the point. -/
theorem rowsB_at (c : Dev nD) (t : Fin cfg0.N) :
    rowsB m c t.val = rowsOf (iblk m c 0 t) (iblk m c 1 t) (carr m c t.val).1 (carr m c t.val).2.1 := by
  unfold rowsB xB wB; rw [pt_val]

/-- The counts and the sums after a point of the first pass. -/
theorem carr_at (c : Dev nD) (t : Fin cfg0.N) (h : t.val < 4) :
    carr m c (t.val + 1) = (nextC1 (iblk m c 0 t) (iblk m c 1 t) (carr m c t.val).1, nextC2 (iblk m c 0 t) (iblk m c 1 t) (carr m c t.val).2.1,
      nextG (iblk m c 0 t) (iblk m c 1 t) (carr m c t.val).2.2) := by
  rw [carr_first m c _ h]; unfold xB wB; rw [pt_val]

/-- The first point. -/
theorem body_start (c : Dev nD) (t : Fin cfg0.N) (h0 : t.val = 0) :
    bodyPre m c t ⊢ wp frame (wpE (defs₀ (F := F)) Variants.none c none) Set.univ (bodyAt0 t) (fun _ => bodyPost m c t) := by
  have h1 : t.val < 4 := by omega
  unfold bodyPre bodyPost bodyAt0
  simp only [before0, before1]
  rw [show (dats m 0 c).owesAt () t.succ = (dats m 0 c).owesAt () t.castSucc from rfl,
    show (dats m 0 c).Φ t.succ = PhiS m c (t.val + 1) from rfl, PhiS_succ, PhiS_castSucc,
    leaves_in0, leaves_in1, leaves_first m c t 2 (by decide) h1, leaves_first m c t 3 (by decide) h1,
    leaves_first m c t 4 (by decide) h1, leaves_first m c t 5 (by decide) h1, carr_at m c t h1]
  rw [show PhiS m c t.val = Pipeline.ΦA spec0 c from by rw [h0]; rfl, PhiA_eq]
  have ec : carr m c t.val = (k0_pay1, k0_pay2, k0_pay3) := by rw [h0]; rfl
  have eR := rowsB_at m c t
  rw [ec] at eR ⊢
  iintro ⟨⟨⟨⟨%s0, HS0⟩, HS1, HS2, HS3⟩, Hg⟩, Ho, ⟨%d0, H0⟩, ⟨%d1, H1⟩, ⟨%d2, H2⟩, ⟨%d3, H3⟩, ⟨%d4, H4⟩, ⟨%d5, H5⟩⟩
  iapply (runA c (grid0.coords t) _ _ _ _ _ _ _ _ _ _ _ _ _ _ _ _ _ _ _ _ (iblk m c 0 t) (iblk m c 1 t) _ _ _ _ s0
    ((hcond0 t).mpr (by omega)) ((hcond1 t).mpr h1) (fun h => absurd ((hcond2 t).mp h) (by omega)) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  unfold firstPost
  iintro ⟨H0, H1, H2, H3, H4, H5, ⟨%d, %hd, HS0⟩, HS1, HS2, HS3⟩
  isplitl [HS0 HS1 HS2 HS3 Hg]
  · isplitl [HS0 HS1 HS2 HS3]
    · isplitl [HS0]
      · iexists d; isplitr; swap; · iexact HS0
        ipureintro
        exact rows_first m c t h1 s0 d (fun b _ hb => absurd hb (by omega)) (by rw [eR]; exact hd.1) hd.2
      isplitl [HS1]; · iexact HS1
      isplitl [HS2]; · iexact HS2
      iexact HS3
    iexact Hg
  isplitl [Ho]; · iexact Ho
  isplitl [H0]; · iexact H0
  isplitl [H1]; · iexact H1
  isplitl [H2]; · iexists d2; iexact H2
  isplitl [H3]; · iexists d3; iexact H3
  isplitl [H4]; · iexists d4; iexact H4
  iexists d5; iexact H5

/-- The other points of the first pass. -/
theorem body_first (c : Dev nD) (t : Fin cfg0.N) (h0 : t.val ≠ 0) (h1 : t.val < 4) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl,
    show (dats m 0 c).Φ t.succ = PhiS m c (t.val + 1) from rfl, PhiS_succ, PhiS_castSucc, PhiS_pos m c _ h0,
    leaves_in0, leaves_in1, leaves_first m c t 2 (by decide) h1, leaves_first m c t 3 (by decide) h1,
    leaves_first m c t 4 (by decide) h1, leaves_first m c t 5 (by decide) h1, carr_at m c t h1]
  have eR := rowsB_at m c t
  iintro ⟨⟨⟨⟨%s0, %hs0, HS0⟩, HS1, HS2, HS3⟩, Hg⟩, Ho, ⟨%d0, H0⟩, ⟨%d1, H1⟩, ⟨%d2, H2⟩, ⟨%d3, H3⟩, ⟨%d4, H4⟩, ⟨%d5, H5⟩⟩
  iapply (runB c (grid0.coords t) _ _ _ _ _ _ _ _ _ _ _ _ _ _ _ _ _ _ _ _ (iblk m c 0 t) (iblk m c 1 t) _ _ _ _ s0 _ _ _
    (fun h => absurd ((hcond0 t).mp h) (by omega)) ((hcond1 t).mpr h1) (fun h => absurd ((hcond2 t).mp h) (by omega)) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  unfold firstPost
  iintro ⟨H0, H1, H2, H3, H4, H5, ⟨%d, %hd, HS0⟩, HS1, HS2, HS3⟩
  isplitl [HS0 HS1 HS2 HS3 Hg]
  · isplitl [HS0 HS1 HS2 HS3]
    · isplitl [HS0]
      · iexists d; isplitr; swap; · iexact HS0
        ipureintro
        exact rows_first m c t h1 s0 d hs0 (by rw [eR]; exact hd.1) hd.2
      isplitl [HS1]; · iexact HS1
      isplitl [HS2]; · iexact HS2
      iexact HS3
    iexact Hg
  isplitl [Ho]; · iexact Ho
  isplitl [H0]; · iexact H0
  isplitl [H1]; · iexact H1
  isplitl [H2]; · iexists d2; iexact H2
  isplitl [H3]; · iexists d3; iexact H3
  isplitl [H4]; · iexists d4; iexact H4
  iexists d5; iexact H5

/-- The points of the second pass. -/
theorem body_second (c : Dev nD) (t : Fin cfg0.N) (h2 : 4 ≤ t.val) :
    bodyPre m c t ⊢ wp frame (wpE (defs₀ (F := F)) Variants.none c none) Set.univ (bodyAt0 t) (fun _ => bodyPost m c t) := by
  have ht : t.val < 8 := Nat.lt_of_lt_of_eq t.isLt N_0
  unfold bodyPre bodyPost bodyAt0
  simp only [before0, before1]
  rw [show (dats m 0 c).owesAt () t.succ = (dats m 0 c).owesAt () t.castSucc from rfl,
    show (dats m 0 c).Φ t.succ = PhiS m c (t.val + 1) from rfl, PhiS_succ, PhiS_castSucc, PhiS_pos m c _ (by omega),
    leaves_in0, leaves_in1, leaves_second m c t 2 h2, leaves_second m c t 3 h2,
    leaves_second m c t 4 h2, leaves_second m c t 5 h2, after2, after3, after4, after5,
    carr_late' m c _ h2, carr_late' m c (t.val + 1) (by omega)]
  iintro ⟨⟨⟨⟨%s0, %hs0, HS0⟩, HS1, HS2, HS3⟩, Hg⟩, Ho, ⟨%d0, H0⟩, ⟨%d1, H1⟩, ⟨%d2, H2⟩, ⟨%d3, H3⟩, ⟨%d4, H4⟩, ⟨%d5, H5⟩⟩
  iapply (runC c (grid0.coords t) _ _ _ _ _ _ _ _ _ _ _ _ _ _ _ _ _ _ _ _ (iblk m c 0 t) (iblk m c 1 t) s0 _ _ _
    (fun h => absurd ((hcond0 t).mp h) (by omega)) (fun h => absurd ((hcond1 t).mp h) (by omega)) ((hcond2 t).mpr h2)
    (rowsB m c (t.val % 4)) (by rw [coord1]; exact hs0 _ (Nat.mod_lt _ (by omega)) (by omega)) Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · isplitl [HS0]
      · iexists s0; isplitr; swap; · iexact HS0
        ipureintro
        exact fun b hb _ => hs0 b hb (by omega)
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body at any point. -/
theorem body_any (c : Dev nD) (t : Fin cfg0.N) :
    bodyPre m c t ⊢ wp frame (wpE (defs₀ (F := F)) Variants.none c none) Set.univ (bodyAt0 t) (fun _ => bodyPost m c t) := by
  by_cases h0 : t.val = 0
  · exact body_start m c t h0
  · by_cases h1 : t.val < 4
    · exact body_first m c t h0 h1
    · exact body_second m c t (by omega)

/-- The call's body at a point is the kernel's body at it. -/
theorem body_row (t : Fin cfg0.N) :
    defs₀ (F := F) .tc cfg0.body (cfg0.bodyArgs t (cfg0.slots t)) = bodyAt0 t := by
  unfold defs₀; rw [Defs.onTc_tc]

/-- The body at every point keeps to the launch's data. -/
theorem body_obligation (c : Dev nD) : BodyObligation (dats (F := F) m 0 c) (defs₀ (F := F)) Variants.none () Set.univ := fun t => by
  rw [bigSep_W0, bigSep_W0, body_row]
  exact triple_restated (body_any m c t) rfl .rfl fun _ => .rfl

/-- What the launch gives is what holds before the first point. -/
theorem hin (c : Dev nD) : Pipeline.ΦA spec0 c ⊢ (dats m 0 c).Φ 0 := by
  rw [show (dats m 0 c).Φ 0 = PhiS m c 0 from rfl]
  exact Idealize.SL.BI.Entails.refl _

/-- What holds after the last point is what the launch takes back. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by rw [show cfg0.N = 8 from N_0]; omega), PhiA_eq]
  iintro ⟨⟨⟨%d, -, HS0⟩, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
set_option maxHeartbeats 800000 in
/-- The whole program's run: the arrays as the points left them, the host lines' results after them, no semaphore held. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program terminates with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KRun

end
-- ==== Proof.Frames.lean ====
/- The two programs of the kernel have the same text, so the run of one is the run of the other. -/
module

public import proofs.«01_k».proof.Proof.KernelRun
public import proofs.«01_k».proof.Defs

@[expose] public section

set_option maxRecDepth 16384

noncomputable section

namespace Cert.KRun

open Idealize.ShloMosaic Idealize.ShloMosaic.TcCoe Idealize.SL Idealize.SL.Sem

/-- The two programs' body tables. -/
theorem body_eq [Cert.Kernel.Facts] : Cert.Kernel.defs₀ (F := Bits) = Cert.KernelIdeal.defs₀ (F := Bits) := by
  refine congrArg Defs.onTc ?_
  funext l x
  match l, x with
  | 0, (t, s) => rfl

/-- Their tables with the pipeline's own entries. -/
theorem defs_eq [Cert.Kernel.Facts] : Cert.Kernel.defs (F := Bits) = Cert.KernelIdeal.defs (F := Bits) :=
  congrArg (Pipeline.defs (Cert.Kernel.pcfgs (F := Bits))) body_eq

/-- The kernel, read on machine words, terminates with its arguments unchanged and every semaphore at zero. -/
theorem frame_bits [Cert.Kernel.Facts] (m : (ℓ : Loc Cert.Kernel.nD Cert.Kernel.τ Cert.Kernel.sig) → Buf (Elt Bits) ℓ)
    (g : Dev Cert.Kernel.nD → PrngReg) :
    θ_run Cert.Kernel.defs (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  Eq.mpr (congrArg (fun D => θ_run D (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)) defs_eq) (frame (F := Bits) m g)

end Cert.KRun

end
-- ==== Proof.Choice.lean ====
/- The two greatest entries of a row: the first place of the greatest value, and the first place of the greatest value once
   that place is struck out. A stable descending sort puts these two places first. -/
module

public import Idealize.ShloMosaic.PureOps
public import Idealize.ShloMosaic.PureOps.Ideal
public import Idealize.ShloMosaic.PureOps.Ideal.Laws
public import Idealize.ShloMosaic.Lib.SortPrefix
public import Idealize.ShloMosaic.Lib.Pointwise.Index

@[expose] public section

noncomputable section

namespace Cert.Choice

open Idealize.ShloMosaic

variable {n : ℕ}

/-- `e` is the first place where the row takes its greatest value. -/
def IsLead (g : Fin n → EReal) (e : Fin n) : Prop := (∀ k, g k ≤ g e) ∧ ∀ k, k < e → g k < g e

/-- Every row that is not empty has such a place. -/
theorem exists_lead [NeZero n] (g : Fin n → EReal) : ∃ e, IsLead g e := by
  classical
  obtain ⟨a, -, ha⟩ := Finset.exists_max_image Finset.univ g ⟨0, Finset.mem_univ _⟩
  have hne : (Finset.univ.filter fun k => g k = g a).Nonempty := ⟨a, by simp⟩
  have hm := Finset.min'_mem _ hne
  refine ⟨(Finset.univ.filter fun k => g k = g a).min' hne, fun k => ?_, fun k hk => ?_⟩
  · rw [(Finset.mem_filter.mp hm).2]; exact ha k (Finset.mem_univ _)
  · rw [(Finset.mem_filter.mp hm).2]
    refine lt_of_le_of_ne (ha k (Finset.mem_univ _)) fun e => ?_
    exact absurd (Finset.min'_le _ k (by simp [e])) (not_le.mpr hk)

/-- There is only one. -/
theorem IsLead.unique {g : Fin n → EReal} {a b : Fin n} (ha : IsLead g a) (hb : IsLead g b) : a = b := by
  rcases lt_trichotomy a b with h | h | h
  · exact absurd (ha.1 b) (not_le.mpr (hb.2 a h))
  · exact h
  · exact absurd (hb.1 a) (not_le.mpr (ha.2 b h))

/-- The first place of the greatest value. -/
def lead [NeZero n] (g : Fin n → EReal) : Fin n := (exists_lead g).choose

/-- The leading place leads. -/
theorem lead_spec [NeZero n] (g : Fin n → EReal) : IsLead g (lead g) := (exists_lead g).choose_spec

/-- The row with its leading place overwritten by -1. -/
def rest [NeZero n] (g : Fin n → EReal) : Fin n → EReal := fun e => if e = lead g then -1 else g e

/-- The second choice. -/
def second [NeZero n] (g : Fin n → EReal) : Fin n := lead (rest g)

/-- A positive value is above -1. -/
theorem neg_one_lt {x : EReal} (h : 0 < x) : (-1 : EReal) < x :=
  lt_trans (by rw [show (-1 : EReal) = ((-1 : ℝ) : EReal) from by simp]; exact_mod_cast (by norm_num : (-1 : ℝ) < 0)) h

/-- In a row of at least two positive values the second choice is not the first. -/
theorem second_ne_lead [NeZero n] (hn : 1 < n) (g : Fin n → EReal) (hg : ∀ k, 0 < g k) : second g ≠ lead g := by
  intro h
  obtain ⟨k, hk⟩ : ∃ k : Fin n, k ≠ lead g := by
    haveI : Nontrivial (Fin n) := Fin.nontrivial_iff_two_le.mpr hn
    exact exists_ne _
  have h1 := (lead_spec (rest g)).1 k
  rw [show lead (rest g) = lead g from h] at h1
  unfold rest at h1
  rw [if_neg hk, if_pos rfl] at h1
  exact absurd h1 (not_le.mpr (neg_one_lt (hg k)))

/-- At the second choice nothing was overwritten. -/
theorem rest_second [NeZero n] (hn : 1 < n) (g : Fin n → EReal) (hg : ∀ k, 0 < g k) : rest g (second g) = g (second g) := by
  unfold rest; rw [if_neg (second_ne_lead hn g hg)]

/-- The greatest value, as a fold of `max` from the least value. -/
theorem fold_max_eq [NeZero n] (g : Fin n → EReal) (b : EReal) (hb : b = ⊥) : Finset.univ.fold max b g = g (lead g) := by
  subst hb
  refine le_antisymm ?_ ?_
  · rw [Finset.fold_max_le]; exact ⟨bot_le, fun k _ => (lead_spec g).1 k⟩
  · rw [Finset.le_fold_max]; exact Or.inr ⟨lead g, Finset.mem_univ _, le_rfl⟩

/-! ## The sort -/

/-- A stable sort of increasing places asks its test only of a later place against an earlier one. -/
theorem stableSort_congr_of_increasing {ι : Type} [LinearOrder ι] (R R' : ι → ι → Bool) (h : ∀ a b, a < b → R b a = R' b a) :
    ∀ l : List ι, l.Pairwise (· < ·) → stableSort R l = stableSort R' l
  | [], _ => rfl
  | a :: l, hl => by
      have hl' := List.pairwise_cons.mp hl
      unfold stableSort
      rw [stableSort_congr_of_increasing R R' h l hl'.2]
      exact insertBefore_congr R R' a _ fun b hb => h a b (hl'.1 b ((perm_stableSort R' l).mem_iff.mp hb))

/-- "Greater, or equal and earlier". -/
def ahead (g : Fin n → EReal) (k k' : Fin n) : Bool := decide (g k' < g k) || (decide (g k = g k') && decide (k < k'))

/-- Ordering the places by greater value, equal values by place, is a strict total order. -/
theorem ahead_total (g : Fin n → EReal) : StrictTotalBefore (ahead g) :=
  StrictTotalBefore.of_key_then_position (fun a b : EReal => decide (b < a)) g (fun a => by simp)
    (fun a b c hab hbc => by simp only [decide_eq_true_eq] at *; exact lt_trans hbc hab)
    (fun a b => by simp only [decide_eq_true_eq]; rcases lt_trichotomy a b with h | h | h <;> tauto)

/-- The descending sort that asks only of the values is the sort that also asks of the places. -/
theorem sortedFrom_desc (g : Fin n → EReal) (i : Fin n) :
    sortedFrom (fun k k' => Ideal.cmp .ogt (g k) (g k') == 1#1) i = sortedFrom (ahead g) i := by
  have e : sortPositions n (fun k k' => Ideal.cmp .ogt (g k) (g k') == 1#1) = sortPositions n (ahead g) := by
    refine stableSort_congr_of_increasing _ _ (fun a b hab => ?_) _ (List.pairwise_lt_finRange n)
    have h1 : decide (b < a) = false := decide_eq_false (not_lt.mpr hab.le)
    have h2 : (Ideal.cmp .ogt (g b) (g a) == 1#1) = decide (g a < g b) := by
      show (BitVec.ofBool (decide (g a < g b)) == 1#1) = _
      by_cases h : g a < g b <;> simp [h]
    rw [h2, ahead, h1, Bool.and_false, Bool.or_false]
  exact List.get_of_eq e _

/-- Such a sort of positive values puts the first and the second choice first. -/
theorem sortedFrom_two [NeZero n] (hn : 2 ≤ n) (g : Fin n → EReal) (hg : ∀ k, 0 < g k) (i : Fin 2) :
    sortedFrom (fun k k' => Ideal.cmp .ogt (g k) (g k') == 1#1) (i.castLE hn) = (![lead g, second g] : Fin 2 → Fin n) i := by
  have hne := second_ne_lead hn g hg
  have h1 := lead_spec g
  have h2 : ∀ k, k ≠ lead g → g k ≤ g (second g) ∧ (k < second g → g k < g (second g)) := fun k hk => by
    have h := lead_spec (rest g)
    have hr := rest_second hn g hg
    have e : rest g k = g k := if_neg hk
    have a := h.1 k
    have b := h.2 k
    rw [show lead (rest g) = second g from rfl, e, hr] at a b
    exact ⟨a, b⟩
  -- a place is never ahead of a first place of the greatest value
  have hno : ∀ a p : Fin n, g p ≤ g a → (p < a → g p < g a) → ahead g p a = false := fun a p ha hb => by
    unfold ahead
    rw [decide_eq_false (not_lt.mpr ha), Bool.false_or]
    by_cases hlt : p < a
    · rw [decide_eq_false (ne_of_lt (hb hlt)), Bool.false_and]
    · rw [decide_eq_false hlt, Bool.and_false]
  rw [sortedFrom_desc]
  refine (ahead_total g).sortedFrom_eq_of_prefix hn ![lead g, second g] ?_ ?_ ?_ i
  · intro a b hab
    fin_cases a <;> fin_cases b
    · rfl
    · exact absurd hab.symm hne
    · exact absurd hab hne
    · rfl
  · intro a b hab
    fin_cases a <;> fin_cases b
    · exact absurd hab (lt_irrefl _)
    · exact hno _ _ (h1.1 _) (h1.2 _)
    · exact absurd hab (by decide)
    · exact absurd hab (lt_irrefl _)
  · intro a p hp
    fin_cases a
    · exact hno _ _ (h1.1 _) (h1.2 _)
    · exact hno _ _ (h2 p fun e => hp 0 e.symm).1 (h2 p fun e => hp 0 e.symm).2

end Cert.Choice
-- ==== Proof.Route.lean ====
/- What the routing computes, in closed form over the tokens' gates: the two choices of a token, its places in the queues of the
   two experts, the weights of the two choices, and the combined weights. -/
module

public import proofs.«01_k».proof.Proof.Choice

@[expose] public section

noncomputable section

namespace Cert.Route

open Idealize.ShloMosaic Cert.Choice

/-! ## The gates -/

/-- The softmax of a row, the greatest entry subtracted first. -/
def softRow (L : Fin 64 → EReal) (e : Fin 64) : EReal :=
  Ideal.div (Ideal.exp (L e - L (lead L))) (∑ k, Ideal.exp (L k - L (lead L)))

/-- The softmax of a row of real numbers is positive. -/
theorem softRow_pos (L : Fin 64 → EReal) (hL : ∀ e, ∃ r : ℝ, L e = r) (e : Fin 64) : 0 < softRow L e := by
  choose r hr using hL
  have hx : ∀ k, Ideal.exp (L k - L (lead L)) = ((Real.exp (r k - r (lead L)) : ℝ) : EReal) := fun k => by
    rw [hr k, hr (lead L), ← EReal.coe_sub]; rfl
  have hs : (∑ k, Ideal.exp (L k - L (lead L))) = ((∑ k, Real.exp (r k - r (lead L)) : ℝ) : EReal) := by
    rw [Finset.sum_congr rfl fun k _ => hx k]
    exact (map_sum (⟨⟨fun x : ℝ => (x : EReal), rfl⟩, EReal.coe_add⟩ : ℝ →+ EReal) _ _).symm
  have hpos : 0 < ∑ k, Real.exp (r k - r (lead L)) := Finset.sum_pos (fun k _ => Real.exp_pos _) ⟨e, Finset.mem_univ _⟩
  unfold softRow
  rw [hx, hs, Ideal.div_coe hpos.ne', ← EReal.coe_mul]
  exact_mod_cast mul_pos (Real.exp_pos _) (one_div_pos.mpr hpos)

/-- A token's number, brought into range. -/
def tok (s : ℕ) : Fin 2048 := ⟨s % 2048, Nat.mod_lt _ (by norm_num)⟩

/-- A token's number in range is itself. -/
theorem tok_val (s : Fin 2048) : tok s.val = s := Fin.ext (Nat.mod_eq_of_lt s.isLt)

section Gates

variable (X : (⟨2, ![2048, 4096]⟩ : Shape).Idx → EReal) (W : (⟨2, ![64, 4096]⟩ : Shape).Idx → EReal)

/-- The scores of token `s`. -/
def logit (s : ℕ) (e : Fin 64) : EReal := ∑ k : Fin 4096, X (ix2 (tok s) k) * W (ix2 e k)

/-- The gates of token `s`. -/
def gate (s : ℕ) : Fin 64 → EReal := softRow (logit X W s)

/-- Over real arguments every gate is positive. -/
theorem gate_pos (hX : ∀ i, ∃ r : ℝ, X i = r) (hW : ∀ i, ∃ r : ℝ, W i = r) (s : ℕ) (e : Fin 64) : 0 < gate X W s e := by
  refine softRow_pos _ (fun e => ?_) e
  choose x hx using hX
  choose w hw using hW
  refine ⟨∑ k : Fin 4096, x (ix2 (tok s) k) * w (ix2 e k), ?_⟩
  unfold logit
  rw [Finset.sum_congr rfl fun k _ => show X (ix2 (tok s) k) * W (ix2 e k) = ((x (ix2 (tok s) k) * w (ix2 e k) : ℝ) : EReal) by
    rw [hx, hw, EReal.coe_mul]]
  exact (map_sum (⟨⟨fun x : ℝ => (x : EReal), rfl⟩, EReal.coe_add⟩ : ℝ →+ EReal) _ _).symm

end Gates

/-! ## The routing -/

section Routing

variable (G : ℕ → Fin 64 → EReal)

/-- The first expert of token `s`. -/
def E1 (s : ℕ) : Fin 64 := lead (G s)
/-- The second expert of token `s`. -/
def E2 (s : ℕ) : Fin 64 := second (G s)

/-- How many of the tokens before `n` have `e` as their first expert. -/
def count1 (e : Fin 64) (n : ℕ) : ℕ := Nat.count (fun t => E1 G t = e) n
/-- How many of the tokens before `n` have `e` as their second expert. -/
def count2 (e : Fin 64) (n : ℕ) : ℕ := Nat.count (fun t => E2 G t = e) n

/-- The place of token `s` in the queue of its first expert. -/
def place1 (s : ℕ) : ℕ := count1 G (E1 G s) s
/-- The place of token `s` in the queue of its second expert, behind all first choices. -/
def place2 (s : ℕ) : ℕ := count2 G (E2 G s) s + count1 G (E2 G s) 2048

/-- The first gate, dropped where the queue is full. -/
def kept1 (s : ℕ) : EReal := if place1 G s < 64 then G s (E1 G s) else 0
/-- The second gate, dropped where the queue is full. -/
def kept2 (s : ℕ) : EReal := if place2 G s < 64 then G s (E2 G s) else 0

/-- The normalizer, kept away from zero. -/
def den (s : ℕ) : EReal := max (kept1 G s + kept2 G s) (Ideal.ofBits .f32 0x34000000#32)

/-- The weight of the first choice. -/
def weight1 (s : ℕ) : EReal := Ideal.div (kept1 G s) (den G s)
/-- The weight of the second choice. -/
def weight2 (s : ℕ) : EReal := Ideal.div (kept2 G s) (den G s)

/-- The combined weight of token `s` at expert `e` and place `c`. -/
def comb (s : ℕ) (e c : Fin 64) : EReal :=
  (if e = E1 G s then weight1 G s * (if c.val = place1 G s then 1 else 0) else 0)
    + (if e = E2 G s then weight2 G s * (if c.val = place2 G s then 1 else 0) else 0)

/-- A count of first choices is at most the number of tokens. -/
theorem count1_le (e : Fin 64) (n : ℕ) : count1 G e n ≤ n := Nat.count_le _
/-- A count of second choices is at most the number of tokens. -/
theorem count2_le (e : Fin 64) (n : ℕ) : count2 G e n ≤ n := Nat.count_le _

end Routing

/-! ## Words, naturals and extended reals -/

/-- The value of a natural number. -/
def real (n : ℕ) : EReal := ((n : ℝ) : EReal)

/-- The value of 0. -/
theorem real_zero : real 0 = 0 := by simp [real]
/-- The value of 1. -/
theorem real_one : real 1 = 1 := by simp [real]
/-- Values add as naturals do. -/
theorem real_add (a b : ℕ) : real a + real b = real (a + b) := by simp only [real]; rw [← EReal.coe_add]; push_cast; rfl
/-- One less than the value of a successor. -/
theorem real_succ_sub_one (a : ℕ) : real (a + 1) - 1 = real a := by
  simp only [real]; rw [show (1 : EReal) = ((1 : ℝ) : EReal) from rfl, ← EReal.coe_sub]; exact congrArg Real.toEReal (by push_cast; ring)
/-- The value of a successor is not zero. -/
theorem real_succ_ne_zero (a : ℕ) : real (a + 1) ≠ 0 := by
  simp only [real]; exact_mod_cast Nat.succ_ne_zero a

/-- The word of a natural taken as an integer. -/
theorem ofInt_natCast (a : ℕ) : BitVec.ofInt 32 (a : ℤ) = BitVec.ofNat 32 a := by
  apply BitVec.eq_of_toNat_eq; simp

/-- The truncation of a small natural is its word. -/
theorem fptosi_real (a : ℕ) (h : a < 2 ^ 31) : Ideal.fptosi 32 (real a) = BitVec.ofNat 32 a := by
  unfold Ideal.fptosi real
  rw [Ideal.toIntClamped_coe, if_pos (Nat.cast_nonneg a), Int.floor_natCast, min_eq_right, max_eq_right, ofInt_natCast]
  · push_cast; omega
  · norm_num; omega

/-- A small word read signed. -/
theorem toInt_ofNat (a : ℕ) (h : a < 2 ^ 31) : (BitVec.ofNat 32 a).toInt = a := by
  rw [BitVec.toInt_eq_toNat_of_lt] <;> simp only [BitVec.toNat_ofNat] <;> omega

/-- The value of a small word. -/
theorem sitofp_word (a : ℕ) (h : a < 2 ^ 31) : FloatOps.sitofp (F := Ideal) .f32 (BitVec.ofNat 32 a) = real a := by
  show ((((BitVec.ofNat 32 a).toInt : ℝ)) : EReal) = real a
  rw [toInt_ofNat a h]; rfl

/-- Small naturals with the same word are equal. -/
theorem ofNat_inj {a b : ℕ} (ha : a < 2 ^ 32) (hb : b < 2 ^ 32) : BitVec.ofNat 32 a = BitVec.ofNat 32 b ↔ a = b := by
  constructor
  · intro h; have := congrArg BitVec.toNat h; simp only [BitVec.toNat_ofNat] at this; omega
  · rintro rfl; rfl

/-- A one-bit answer, widened and made a value. -/
theorem sitofp_bit (p : Prop) [Decidable p] :
    FloatOps.sitofp (F := Ideal) .f32 ((BitVec.ofBool (decide p)).setWidth 32) = if p then 1 else 0 := by
  by_cases h : p
  · rw [if_pos h, decide_eq_true h]; show ((((1#32 : BitVec 32).toInt : ℝ)) : EReal) = 1; simp
  · rw [if_neg h, decide_eq_false h]; show ((((0#32 : BitVec 32).toInt : ℝ)) : EReal) = 0; simp

/-- Counting with indicator values over a block of tokens. -/
theorem sum_indicator (n : ℕ) (p : ℕ → Prop) [DecidablePred p] :
    ∑ t : Fin n, (if p t.val then (1 : EReal) else 0) = real (Nat.count p n) := by
  induction n with
  | zero => simp [real]
  | succ n ih =>
    rw [Fin.sum_univ_castSucc]
    rw [show (∑ i : Fin n, if p (i.castSucc).val then (1 : EReal) else 0) = real (Nat.count p n) from ih]
    rw [Nat.count_succ, ← real_add]
    congr 1
    by_cases h : p n <;> simp [h, real]

/-- The same, only over the tokens up to `j`: the count of the tokens up to `j`. -/
theorem sum_prefix (n : ℕ) (p : ℕ → Prop) [DecidablePred p] (j : ℕ) (hj : j < n) :
    ∑ t : Fin n, (if p t.val then (1 : EReal) else 0) * (if t.val ≤ j then 1 else 0) = real (Nat.count p (j + 1)) := by
  rw [Finset.sum_congr rfl (g := fun t : Fin n => if (p t.val ∧ t.val ≤ j) then (1 : EReal) else 0)
    (fun t _ => by by_cases h1 : p t.val <;> by_cases h2 : t.val ≤ j <;> simp [h1, h2])]
  refine (sum_indicator n (fun t => p t ∧ t ≤ j)).trans (congrArg real ?_)
  rw [Nat.count_eq_card_filter_range, Nat.count_eq_card_filter_range]
  congr 1
  ext t
  simp only [Finset.mem_filter, Finset.mem_range]
  constructor
  · rintro ⟨-, h2, h3⟩; exact ⟨by omega, h2⟩
  · rintro ⟨h1, h2⟩; exact ⟨by omega, h2, by omega⟩

/-- A sum with one entry left standing. -/
theorem sum_pick {n : ℕ} (f : Fin n → EReal) (a : Fin n) : ∑ e : Fin n, f e * (if e = a then 1 else 0) = f a := by
  rw [Finset.sum_eq_single a]
  · rw [if_pos rfl, mul_one]
  · intro b _ hb; rw [if_neg hb, mul_zero]
  · intro h; exact absurd (Finset.mem_univ a) h

/-- The same for a choice between the entry and zero. -/
theorem sum_pick' {n : ℕ} (f : Fin n → EReal) (a : Fin n) : ∑ e : Fin n, (if e = a then f e else 0) = f a := by
  rw [Finset.sum_ite_eq' Finset.univ a f, if_pos (Finset.mem_univ a)]

/-! ## The loss -/

/-- The auxiliary loss: the mean gates against the first choices' shares. -/
def loss (G : ℕ → Fin 64 → EReal) : EReal :=
  Ideal.div (∑ e : Fin 64, Ideal.div (∑ s : Fin 2048, G s.val e) (Ideal.ofBits .f32 0x45000000#32)
      * Ideal.div (real (count1 G e 2048)) (Ideal.ofBits .f32 0x45000000#32))
    (Ideal.ofBits .f32 0x42800000#32) * Ideal.ofBits .f32 0x42800000#32 * Ideal.ofBits .f32 0x42800000#32

end Cert.Route
-- ==== Proof.KernelFirst.lean ====
/- The first pass over a block of tokens, read entry by entry: its six rows and what it adds to the running counts and sums. -/
module

public import proofs.«01_k».proof.Proof.KernelBody
public import proofs.«01_k».proof.Proof.Route
public import Idealize.ShloMosaic.Lib.SortNet.Extract
public import Idealize.ShloMosaic.Lib.Pipeline.ValueKit

@[expose] public section

set_option maxRecDepth 16384

noncomputable section

namespace Cert.KMath

open Idealize.ShloMosaic Idealize.ShloMosaic.Tactic
open Cert.KernelIdeal Cert.KernelIdeal.Gen Cert.Choice Cert.Route Cert.KRun

/-- The value the greatest entry of a row is folded from is the least one. -/
theorem ofBits_neg_inf : Ideal.ofBits .f32 0xFF800000#32 = ⊥ := by
  show Ideal.ieee 8 23 (0xFF800000#32 : BitVec 32) = ⊥
  unfold Ideal.ieee; simp

/-- The least number among the places that qualify, with 64 standing for the others, is the first such place. -/
theorem fold_minsi (p : Fin 64 → Prop) [DecidablePred p] (a : Fin 64) (ha : p a) (hlt : ∀ k, k < a → ¬ p k) :
    Finset.univ.fold IntOp.minsi 2147483647#32 (fun e : Fin 64 => if p e then BitVec.ofNat 32 e.val else 64#32) = BitVec.ofNat 32 a.val := by
  apply BitVec.eq_of_toInt_eq
  have hw : ∀ e : Fin 64, (BitVec.ofNat 32 e.val).toInt = e.val := fun e => toInt_ofNat _ (by omega)
  have h := Finset.fold_hom (op := IntOp.minsi (w := 32)) (op' := min) (m := BitVec.toInt) (s := Finset.univ) (b := 2147483647#32)
    (f := fun e : Fin 64 => if p e then BitVec.ofNat 32 e.val else 64#32) SortNet.toInt_minsi
  refine h.symm.trans ?_
  rw [hw]
  refine le_antisymm ?_ ?_
  · rw [Finset.fold_min_le]
    refine Or.inr ⟨a, Finset.mem_univ _, ?_⟩
    show BitVec.toInt (if p a then BitVec.ofNat 32 a.val else 64#32) ≤ _
    rw [if_pos ha, hw]
  · rw [Finset.le_fold_min]
    refine ⟨?_, fun e _ => ?_⟩
    · rw [show (2147483647#32 : BitVec 32).toInt = 2147483647 from by decide]; omega
    · show _ ≤ BitVec.toInt (if p e then BitVec.ofNat 32 e.val else 64#32)
      by_cases he : p e
      · rw [if_pos he, hw]
        have : ¬ e < a := fun hc => hlt e hc he
        rw [Fin.lt_def] at this; omega
      · rw [if_neg he, show (64#32 : BitVec 32).toInt = 64 from by decide]; omega

/-- The expert's number at an entry of an experts × tokens block. -/
theorem eio_at (e : Fin 64) (j : Fin 512) : eio (ix2 e j) = BitVec.ofNat 32 e.val := by
  pointwise [eio]

/-- Whether two experts' numbers are the same word. -/
theorem cmpi_expert (e a : Fin 64) : IntOp.cmpi .eq (BitVec.ofNat 32 e.val) (BitVec.ofNat 32 a.val) = BitVec.ofBool (decide (e = a)) := by
  have h : (BitVec.ofNat 32 e.val = BitVec.ofNat 32 a.val) ↔ e = a := by
    rw [ofNat_inj (by omega) (by omega), Fin.ext_iff]
  show BitVec.ofBool (BitVec.ofNat 32 e.val == BitVec.ofNat 32 a.val) = _
  rw [beq_eq_decide, decide_eq_decide.mpr h]

/-- A choice by a one-bit answer. -/
theorem select_bit {α : Type} (p : Prop) [Decidable p] (a b : α) :
    Scalar.select (BitVec.ofBool (decide p)) a b = if p then a else b := by
  by_cases h : p
  · rw [if_pos h, decide_eq_true h]; rfl
  · rw [if_neg h, decide_eq_false h]; rfl

/-- The word of -1. -/
theorem ofBits_neg_one : Ideal.ofBits .f32 0xBF800000#32 = -1 := by
  show Ideal.ieee 8 23 (0xBF800000#32 : BitVec 32) = -1
  unfold Ideal.ieee; simp; rw [← EReal.coe_mul]; norm_num

/-- The prefix counts of a block: a product with the upper triangle. -/
theorem prefix_at (E : ℕ → Fin 64) (b : ℕ) (e : Fin 64) (j : Fin 512) :
    ∑ t : Fin 512, (if e = E (b + t.val) then (1 : EReal) else 0) * (if t.val ≤ j.val then 1 else 0)
      = real (Nat.count (fun t => E (b + t) = e) (j.val + 1)) := by
  simp only [eq_comm (a := e)]
  exact sum_prefix 512 (fun t => E (b + t) = e) j.val j.isLt

/-- The place in its queue of a block's token: the tokens of its expert before the block and before it in the block. -/
theorem place_at (E : ℕ → Fin 64) (b : ℕ) (j : Fin 512) :
    ∑ e : Fin 64, (real (Nat.count (fun t => E (b + t) = e) (j.val + 1)) - 1 + real (Nat.count (fun t => E t = e) b))
        * (if e = E (b + j.val) then 1 else 0)
      = real (Nat.count (fun t => E t = E (b + j.val)) (b + j.val)) := by
  rw [sum_pick (fun e => real (Nat.count (fun t => E (b + t) = e) (j.val + 1)) - 1 + real (Nat.count (fun t => E t = e) b)),
    Nat.count_succ, if_pos rfl, real_succ_sub_one, real_add, Nat.count_add, Nat.add_comm]

/-- The count after a block. -/
theorem carry_at (E : ℕ → Fin 64) (b : ℕ) (e : Fin 64) :
    real (Nat.count (fun t => E t = e) b) + real (Nat.count (fun t => E (b + t) = e) (511 + 1))
      = real (Nat.count (fun t => E t = e) (b + 512)) := by
  rw [real_add, ← Nat.count_add]

/-- The upper triangle. -/
theorem upper_at (t j : Fin 512) : k0_pay20 (F := Ideal) (ix2 t j) = if t.val ≤ j.val then 1 else 0 := by
  pointwise [k0_pay20]
  rw [← sitofp_bit]
  have h : IntOp.cmpi .sle (BitVec.ofNat 32 t.val) (BitVec.ofNat 32 j.val) = BitVec.ofBool (decide (t.val ≤ j.val)) := by
    show BitVec.ofBool (BitVec.sle _ _) = _
    rw [BitVec.sle, toInt_ofNat _ (by omega), toInt_ofNat _ (by omega), decide_eq_decide.mpr Int.ofNat_le]
  rw [h]

/-- The rows of the two greatest gates, in any arithmetic. -/
theorem rows_two {F : FTy → Type} [FloatOps F] (x : Vec F S512x4096 .f32) (w : Vec F S64x4096 .f32) (c1 c2 : Vec F S64x1 .f32) :
    rowsOf x w c1 c2 2 = k0_pay25 (k0_pay12 x w) := by
  unfold rowsOf; simp only [Matrix.cons_val]
/-- The fourth row is the greatest of the gates with the first choice overwritten. -/
theorem rows_three {F : FTy → Type} [FloatOps F] (x : Vec F S512x4096 .f32) (w : Vec F S64x4096 .f32) (c1 c2 : Vec F S64x1 .f32) :
    rowsOf x w c1 c2 3 = k0_pay26 (k0_pay16 eio x w) := by
  unfold rowsOf; simp only [Matrix.cons_val]

variable (x : FVec Ideal S512x4096 .f32) (w : FVec Ideal S64x4096 .f32)

/-- A block's gates. -/
theorem gates_at (e : Fin 64) (j : Fin 512) :
    k0_pay11 (F := Ideal) x w (ix2 e j) = softRow (fun e => ∑ k : Fin 4096, x (ix2 j k) * w (ix2 e k)) e := by
  pointwise [k0_pay11]
  rw [fold_max_eq _ _ ofBits_neg_inf]
  unfold softRow
  simp only [mul_comm]

section Block

variable (G : ℕ → Fin 64 → EReal) (b : ℕ)
  (hg : ∀ (e : Fin 64) (j : Fin 512), k0_pay11 (F := Ideal) x w (ix2 e j) = G (b + j.val) e)

include hg

/-- The greatest gate. -/
theorem top_at (j : Fin 512) : k0_pay12 (F := Ideal) x w (ix2 0 j) = G (b + j.val) (E1 G (b + j.val)) := by
  pointwise [k0_pay12]
  simp only [hg]
  exact fold_max_eq _ _ ofBits_neg_inf

/-- The first expert's number. -/
theorem first_at (j : Fin 512) : k0_pay13 (F := Ideal) eio x w (ix2 0 j) = BitVec.ofNat 32 (E1 G (b + j.val)).val := by
  pointwise [k0_pay13]
  simp only [eio_at, top_at x w G b hg, hg]
  refine fold_minsi (fun e => G (b + j.val) e = G (b + j.val) (E1 G (b + j.val))) _ rfl fun k hk he => ?_
  exact absurd he (ne_of_lt ((lead_spec (G (b + j.val))).2 k hk))

/-- Whether an expert is the first. -/
theorem isFirst_at (e : Fin 64) (j : Fin 512) :
    k0_pay14 (F := Ideal) eio x w (ix2 e j) = BitVec.ofBool (decide (e = E1 G (b + j.val))) := by
  pointwise [k0_pay14]
  rw [eio_at, first_at x w G b hg, cmpi_expert]

/-- The gates with the first one struck out. -/
theorem rest_at (e : Fin 64) (j : Fin 512) : k0_pay15 (F := Ideal) eio x w (ix2 e j) = rest (G (b + j.val)) e := by
  pointwise [k0_pay15]
  rw [isFirst_at x w G b hg, hg, select_bit, ofBits_neg_one]
  rfl

/-- The greatest of what is left. -/
theorem top2_at (j : Fin 512) : k0_pay16 (F := Ideal) eio x w (ix2 0 j) = rest (G (b + j.val)) (E2 G (b + j.val)) := by
  pointwise [k0_pay16]
  simp only [rest_at x w G b hg]
  exact fold_max_eq _ _ ofBits_neg_inf

/-- The second expert's number. -/
theorem second_at (j : Fin 512) : k0_pay17 (F := Ideal) eio x w (ix2 0 j) = BitVec.ofNat 32 (E2 G (b + j.val)).val := by
  pointwise [k0_pay17]
  simp only [eio_at, top2_at x w G b hg, rest_at x w G b hg]
  refine fold_minsi (fun e => rest (G (b + j.val)) e = rest (G (b + j.val)) (E2 G (b + j.val))) _ rfl fun k hk he => ?_
  exact absurd he (ne_of_lt ((lead_spec (rest (G (b + j.val)))).2 k hk))

/-- The first choices as a mask. -/
theorem mask1_at (e : Fin 64) (j : Fin 512) :
    k0_pay18 (F := Ideal) eio x w (ix2 e j) = if e = E1 G (b + j.val) then 1 else 0 := by
  pointwise [k0_pay18]
  rw [isFirst_at x w G b hg, sitofp_bit]

/-- The second choices as a mask. -/
theorem mask2_at (e : Fin 64) (j : Fin 512) :
    k0_pay19 (F := Ideal) eio x w (ix2 e j) = if e = E2 G (b + j.val) then 1 else 0 := by
  pointwise [k0_pay19]
  rw [eio_at, second_at x w G b hg, cmpi_expert, sitofp_bit]

/-! ## The six rows -/

/-- The first row holds the numbers of the first experts. -/
theorem row0_at (c1 c2 : Vec Ideal S64x1 .f32) (j : Fin 512) :
    rowsOf (F := Ideal) x w c1 c2 0 (ix2 0 j) = real (E1 G (b + j.val)).val := by
  rw [show rowsOf (F := Ideal) x w c1 c2 0 = k0_pay23 (F := Ideal) (k0_pay13 (F := Ideal) eio x w) from rfl]
  pointwise [k0_pay23]
  rw [first_at x w G b hg, sitofp_word _ (by omega)]

/-- The second row holds the numbers of the second experts. -/
theorem row1_at (c1 c2 : Vec Ideal S64x1 .f32) (j : Fin 512) :
    rowsOf (F := Ideal) x w c1 c2 1 (ix2 0 j) = real (E2 G (b + j.val)).val := by
  rw [show rowsOf (F := Ideal) x w c1 c2 1 = k0_pay24 (F := Ideal) (k0_pay17 (F := Ideal) eio x w) from rfl]
  pointwise [k0_pay24]
  rw [second_at x w G b hg, sitofp_word _ (by omega)]

/-- The third row holds the gates of the first experts. -/
theorem row2_at (c1 c2 : Vec Ideal S64x1 .f32) (j : Fin 512) :
    rowsOf (F := Ideal) x w c1 c2 2 (ix2 0 j) = G (b + j.val) (E1 G (b + j.val)) := by
  rw [rows_two]
  pointwise [k0_pay25]
  exact top_at x w G b hg j

/-- The fourth row holds the gates of the second experts. -/
theorem row3_at (hG : ∀ s e, 0 < G s e) (c1 c2 : Vec Ideal S64x1 .f32) (j : Fin 512) :
    rowsOf (F := Ideal) x w c1 c2 3 (ix2 0 j) = G (b + j.val) (E2 G (b + j.val)) := by
  rw [rows_three]
  pointwise [k0_pay26]
  rw [top2_at x w G b hg]
  exact rest_second (by norm_num) _ (hG _)

/-- The place of a token in the queue of its first expert. -/
theorem row4_at (c1 c2 : Vec Ideal S64x1 .f32) (h1 : ∀ e, c1 (ix2 e 0) = real (count1 G e b)) (j : Fin 512) :
    rowsOf (F := Ideal) x w c1 c2 4 (ix2 0 j) = real (place1 G (b + j.val)) := by
  rw [show rowsOf (F := Ideal) x w c1 c2 4 = k0_pay27 (F := Ideal) (k0_pay18 eio x w) (k0_pay21 eio x w) c1 from rfl]
  pointwise [k0_pay27, k0_pay21]
  simp only [mask1_at x w G b hg, upper_at, h1, prefix_at (E1 G)]
  exact place_at (E1 G) b j

/-- The place of a token among the second choices of its second expert. -/
theorem row5_at (c1 c2 : Vec Ideal S64x1 .f32) (h2 : ∀ e, c2 (ix2 e 0) = real (count2 G e b)) (j : Fin 512) :
    rowsOf (F := Ideal) x w c1 c2 5 (ix2 0 j) = real (count2 G (E2 G (b + j.val)) (b + j.val)) := by
  rw [show rowsOf (F := Ideal) x w c1 c2 5 = k0_pay4 (F := Ideal) (k0_pay28 (k0_pay19 eio x w) (k0_pay20 (F := Ideal)) zeros c2) from rfl]
  pointwise [k0_pay4, k0_pay28, k0_pay22, zeros]
  simp only [mask2_at x w G b hg, upper_at, h2, prefix_at (E2 G)]
  exact place_at (E2 G) b j

/-! ## What is carried on -/

/-- The running counts of first choices after the block. -/
theorem next1_at (c1 : Vec Ideal S64x1 .f32) (h1 : ∀ e, c1 (ix2 e 0) = real (count1 G e b)) (e : Fin 64) :
    nextC1 (F := Ideal) x w c1 (ix2 e 0) = real (count1 G e (b + 512)) := by
  pointwise [nextC1, k0_pay5, k0_pay21]
  simp only [mask1_at x w G b hg, upper_at, h1, prefix_at (E1 G)]
  exact carry_at (E1 G) b e

/-- The running counts of second choices after the block. -/
theorem next2_at (c2 : Vec Ideal S64x1 .f32) (h2 : ∀ e, c2 (ix2 e 0) = real (count2 G e b)) (e : Fin 64) :
    nextC2 (F := Ideal) x w c2 (ix2 e 0) = real (count2 G e (b + 512)) := by
  pointwise [nextC2, k0_pay6, k0_pay22, zeros]
  simp only [mask2_at x w G b hg, upper_at, h2, prefix_at (E2 G)]
  exact carry_at (E2 G) b e

/-- The running sums of the gates after the block. -/
theorem nextG_at (g : Vec Ideal S64x1 .f32) (hs : ∀ e, g (ix2 e 0) = ∑ s : Fin b, G s.val e) (e : Fin 64) :
    nextG (F := Ideal) x w g (ix2 e 0) = ∑ s : Fin (b + 512), G s.val e := by
  pointwise [nextG, k0_pay7]
  simp only [hs, hg]
  rw [Fin.sum_univ_add]
  rfl

end Block

end Cert.KMath
-- ==== Proof.KernelSecond.lean ====
/- The second pass over a block of tokens, read entry by entry from the rows of the first pass: the combined weights, the
   dispatch mask and the counts. -/
module

public import proofs.«01_k».proof.Proof.KernelFirst

@[expose] public section

set_option maxRecDepth 16384

noncomputable section

namespace Cert.KMath

open Idealize.ShloMosaic Idealize.ShloMosaic.Tactic
open Cert.KernelIdeal Cert.KernelIdeal.Gen Cert.Choice Cert.Route Cert.KRun

/-- A word compared with 64, and two places compared. -/
theorem slt_64 (a : ℕ) (h : a < 2 ^ 31) : IntOp.cmpi .slt (BitVec.ofNat 32 a) 64#32 = BitVec.ofBool (decide (a < 64)) := by
  show BitVec.ofBool (BitVec.slt _ _) = _
  rw [BitVec.slt, toInt_ofNat _ h, show (64#32 : BitVec 32).toInt = ((64 : ℕ) : ℤ) from by decide, decide_eq_decide.mpr Int.ofNat_lt]

/-- Whether two small naturals are the same word. -/
theorem cmpi_nat (a c : ℕ) (ha : a < 2 ^ 31) (hc : c < 2 ^ 31) :
    IntOp.cmpi .eq (BitVec.ofNat 32 a) (BitVec.ofNat 32 c) = BitVec.ofBool (decide (a = c)) := by
  show BitVec.ofBool (BitVec.ofNat 32 a == BitVec.ofNat 32 c) = _
  rw [beq_eq_decide, decide_eq_decide.mpr (ofNat_inj (by omega) (by omega))]

/-- The mask tells where the combined weight is not zero. -/
theorem mask_of_comb (v18 v37 v38 : IVec S1x512 32) (v50 v51 : FVec Ideal S1x512 .f32) (v52 : IVec S64x512 32) (v54 : IVec S64x512 1)
    (z : Ideal .f32) (e c : Fin 64) (j : Fin 512) :
    k0_pay9 v18 v37 v38 v50 v51 v52 v54 z (ix3 e c j)
      = (BitVec.ofBool (decide (k0_pay8 v18 v37 v38 v50 v51 v52 v54 z (ix3 e c j) ≠ 0))).setWidth 8 := by
  pointwise [k0_pay9]

section Block

variable (G : ℕ → Fin 64 → EReal) (R : Fin 6 → Vec Ideal S1x512 .f32) (n : Vec Ideal S64x1 .f32) (s : ℕ) (hs : s < 2048) (j : Fin 512)
  (h0 : R 0 (ix2 0 j) = real (E1 G s).val) (h1 : R 1 (ix2 0 j) = real (E2 G s).val)
  (h2 : R 2 (ix2 0 j) = G s (E1 G s)) (h3 : R 3 (ix2 0 j) = G s (E2 G s))
  (h4 : R 4 (ix2 0 j) = real (place1 G s)) (h5 : R 5 (ix2 0 j) = real (count2 G (E2 G s) s))
  (hn : ∀ e, n (ix2 e 0) = real (count1 G e 2048))

include hs in
/-- A place in the first queue is a small natural. -/
theorem place1_lt : place1 G s < 2 ^ 31 := by
  have := count1_le G (E1 G s) s
  unfold place1; omega

include hs in
/-- A place in the second queue is a small natural. -/
theorem place2_lt : place2 G s < 2 ^ 31 := by
  have := count2_le G (E2 G s) s
  have := count1_le G (E2 G s) 2048
  unfold place2; omega

include h1 in
/-- The number of the second expert, read back from its row. -/
theorem e2_at : k0_pay29 (F := Ideal) (R 1) (ix2 0 j) = BitVec.ofNat 32 (E2 G s).val := by
  pointwise [k0_pay29]
  rw [h1]; exact fptosi_real _ (by omega)

include h0 in
/-- Whether an expert is the first expert, by the row read back. -/
theorem hit1_at (e : Fin 64) : k0_pay37 (F := Ideal) eio (R 0) (ix2 e j) = BitVec.ofBool (decide (e = E1 G s)) := by
  pointwise [k0_pay37]
  rw [h0, eio_at]
  refine (congrArg _ (fptosi_real _ ?_)).trans (cmpi_expert _ _)
  omega

include hs h4 in
/-- The place in the first queue, read back from its row. -/
theorem loc1_at : k0_pay30 (F := Ideal) (R 4) (ix2 0 j) = BitVec.ofNat 32 (place1 G s) := by
  pointwise [k0_pay30]
  rw [h4]; exact fptosi_real _ (place1_lt G s hs)

include hs h1 h5 hn in
/-- The place in the second queue, behind all first choices. -/
theorem loc2_at : k0_pay31 (F := Ideal) eio (R 1) (R 5) n (ix2 0 j) = BitVec.ofNat 32 (place2 G s) := by
  pointwise [k0_pay31]
  rw [h5, e2_at G R s j h1]
  simp only [eio_at, cmpi_expert, select_bit, hn]
  rw [sum_pick' (fun e => real (count1 G e 2048)), real_add]
  exact fptosi_real _ (place2_lt G s hs)

include hs h0 h1 h2 h3 h4 h5 hn in
/-- The combined weight. -/
theorem comb_at (e c : Fin 64) : combOf (F := Ideal) R n (ix3 e c j) = comb G s e c := by
  pointwise [combOf, k0_pay8, k0_pay35, k0_pay36, k0_pay34, k0_pay33, k0_pay32]
  rw [hit1_at G R s j h0, loc1_at G R s hs j h4, loc2_at G R n s hs j h1 h5 hn, e2_at G R s j h1, h2, h3, eio_at, cmpi_expert,
    slt_64 _ (place1_lt G s hs), slt_64 _ (place2_lt G s hs), cmpi_nat _ _ (by omega) (place1_lt G s hs),
    cmpi_nat _ _ (by omega) (place2_lt G s hs), sitofp_bit, sitofp_bit]
  simp only [select_bit]
  rfl

include hs h0 h1 h2 h3 h4 h5 hn in
/-- The dispatch mask. -/
theorem mask_at (e c : Fin 64) :
    maskOf (F := Ideal) R n (ix3 e c j) = (BitVec.ofBool (decide (comb G s e c ≠ 0))).setWidth 8 := by
  rw [← comb_at G R n s hs j h0 h1 h2 h3 h4 h5 hn e c]
  unfold maskOf combOf
  exact mask_of_comb _ _ _ _ _ _ _ _ e c j

end Block

/-- The counts as words. -/
theorem count_at (G : ℕ → Fin 64 → EReal) (n : Vec Ideal S64x1 .f32) (hn : ∀ e, n (ix2 e 0) = real (count1 G e 2048)) (e : Fin 64) :
    k0_pay10 (F := Ideal) n (ix2 e 0) = BitVec.ofNat 32 (count1 G e 2048) := by
  pointwise [k0_pay10]
  rw [hn]
  have := count1_le G e 2048
  exact fptosi_real _ (by omega)

end Cert.KMath
-- ==== Proof.KernelOut.lean ====
/- What the kernel's arrays hold after the launch, over the two arguments. -/
module

public import proofs.«01_k».proof.Proof.KernelRun
public import proofs.«01_k».proof.Proof.KernelSecond
public import Idealize.ShloMosaic.Lib.Pipeline.ValueKit

@[expose] public section

set_option maxRecDepth 16384

noncomputable section

namespace Cert.KMath

open Idealize.ShloMosaic Idealize.ShloMosaic.TcCoe Idealize.ShloMosaic.Tactic
open Idealize.SL Idealize.SL.Sem
open Idealize.ShloMosaic.Pipeline (Dat)
open Cert.KernelIdeal Cert.KernelIdeal.Gen Cert.Choice Cert.Route Cert.KRun

variable (m : (ℓ : Loc nD τ sig) → Buf (Elt Ideal) ℓ) (c : Dev nD)

/-- The tokens of the launch. -/
def tokens : FVec Ideal S2048x4096 .f32 := m ((c : Thread nD τ).loc main_arg0)
/-- The weights of the experts. -/
def weights : FVec Ideal S64x4096 .f32 := m ((c : Thread nD τ).loc main_arg1)
/-- The gates of the tokens. -/
def gates : ℕ → Fin 64 → EReal := gate (tokens m c) (weights m c)

/-- The blocks a point works on. -/
theorem idx : ∀ t : Fin cfg0.N, win0_0.index t = ![if t.val < 4 then t.val else 0, 0] ∧ win0_1.index t = ![0, 0] ∧
    win0_2.index t = ![0, 0, t.val - 4] ∧ win0_3.index t = ![0, 0, t.val - 4] ∧ win0_4.index t = ![0, 0] ∧ win0_5.index t = ![0, 0] :=
  (by decide +kernel : ∀ t : Fin grid0.N, _)

/-- The tokens of block `b`. -/
theorem xB_at (b : ℕ) (hb : b < 4) (j : Fin 512) (k : Fin 4096) :
    xB m c b (ix2 j k) = tokens m c (ix2 (tok (512 * b + j.val)) k) := by
  have hp : (pt b).val = b := by show b % 8 = b; omega
  have hi : (if (pt b).val < 4 then (pt b).val else 0) = b := by rw [hp, if_pos hb]
  have he : win0_0.index (pt b) = ![b, 0] := by rw [(idx (pt b)).1, hi]
  have ht : (tok (512 * b + j.val)).val = 512 * b + j.val := Nat.mod_eq_of_lt (by omega)
  unfold xB tokens
  blk_ext [iblk, V, he]

/-- Every block of weights is all the weights. -/
theorem wB_at (b : ℕ) (j : Fin 64) (k : Fin 4096) : wB m c b (ix2 j k) = weights m c (ix2 j k) := by
  unfold wB weights
  blk_ext [iblk, V, idx (pt b)]

/-- The gates of block `b`. -/
theorem block_gates (b : ℕ) (hb : b < 4) (e : Fin 64) (j : Fin 512) :
    k0_pay11 (F := Ideal) (xB m c b) (wB m c b) (ix2 e j) = gates m c (512 * b + j.val) e := by
  rw [gates_at]
  unfold gates gate logit
  simp only [xB_at m c b hb, wB_at]

/-- What is carried before block `b`. -/
theorem carried : ∀ (b : ℕ) (hb : b ≤ 4) (e : Fin 64),
    (carr m c b).1 (ix2 e 0) = real (count1 (gates m c) e (512 * b))
    ∧ (carr m c b).2.1 (ix2 e 0) = real (count2 (gates m c) e (512 * b))
    ∧ (carr m c b).2.2 (ix2 e 0) = ∑ s : Fin (512 * b), gates m c s.val e
  | 0, _, e => by
      refine ⟨?_, ?_, ?_⟩
      · show k0_pay1 (F := Ideal) (ix2 e 0) = real 0
        rw [real_zero]; pointwise [k0_pay1]
      · show k0_pay2 (F := Ideal) (ix2 e 0) = real 0
        rw [real_zero]; pointwise [k0_pay2]
      · show k0_pay3 (F := Ideal) (ix2 e 0) = ∑ s : Fin 0, gates m c s.val e
        rw [Fin.sum_univ_zero]; pointwise [k0_pay3]
  | b + 1, hb, e => by
      rw [carr_first m c b (by omega)]
      have hg := block_gates m c b (by omega)
      exact ⟨next1_at _ _ (gates m c) _ hg _ (fun e => (carried b (by omega) e).1) e,
        next2_at _ _ (gates m c) _ hg _ (fun e => (carried b (by omega) e).2.1) e,
        nextG_at _ _ (gates m c) _ hg _ (fun e => (carried b (by omega) e).2.2) e⟩

section Arrays

variable (hG : ∀ s e, 0 < gates m c s e)

include hG in
/-- One entry of the block a point of the second pass leaves. -/
theorem block_comb (b : ℕ) (hb : b < 4) (j : Fin 512) (e p : Fin 64) :
    combOf (F := Ideal) (rowsB m c b) (carr m c 4).1 (ix3 e p j) = comb (gates m c) (512 * b + j.val) e p
    ∧ maskOf (F := Ideal) (rowsB m c b) (carr m c 4).1 (ix3 e p j)
      = (BitVec.ofBool (decide (comb (gates m c) (512 * b + j.val) e p ≠ 0))).setWidth 8 := by
  have hg := block_gates m c b hb
  have k := fun e => carried m c b (by omega) e
  have hs : 512 * b + j.val < 2048 := by omega
  have r0 := row0_at _ _ (gates m c) _ hg (carr m c b).1 (carr m c b).2.1 j
  have r1 := row1_at _ _ (gates m c) _ hg (carr m c b).1 (carr m c b).2.1 j
  have r2 := row2_at _ _ (gates m c) _ hg (carr m c b).1 (carr m c b).2.1 j
  have r3 := row3_at _ _ (gates m c) _ hg hG (carr m c b).1 (carr m c b).2.1 j
  have r4 := row4_at _ _ (gates m c) _ hg (carr m c b).1 (carr m c b).2.1 (fun e => (k e).1) j
  have r5 := row5_at _ _ (gates m c) _ hg (carr m c b).1 (carr m c b).2.1 (fun e => (k e).2.1) j
  have hn := fun e => (carried m c 4 (le_refl 4) e).1
  exact ⟨comb_at (gates m c) (rowsB m c b) _ _ hs j r0 r1 r2 r3 r4 r5 hn e p,
    mask_at (gates m c) (rowsB m c b) _ _ hs j r0 r1 r2 r3 r4 r5 hn e p⟩

/-- The combined weights, tokens last. -/
def combT : FVec Ideal S64x64x2048 .f32 := fun i => comb (gates m c) (i 2).val (i 0) (i 1)
/-- The mask in the layout of the call: experts, places, tokens. -/
def maskT : IVec S64x64x2048 8 := fun i => (BitVec.ofBool (decide (comb (gates m c) (i 2).val (i 0) (i 1) ≠ 0))).setWidth 8

/-- The points that write their block of the combined weights. -/
theorem flushes : ∀ t : Fin cfg0.N, (cfg0.win 2).flush t = true ∨ (cfg0.win 3).flush t = true → 4 ≤ t.val :=
  (by decide +kernel : ∀ t : Fin grid0.N, _)

/-- Where an entry of a written block lies in the array. -/
theorem place2_eq (t : Fin cfg0.N) (h4 : 4 ≤ t.val) (y : S64x64x512.Idx) :
    (win0_2.blk t).view.emb y = ix3 (y 0) (y 1) (tok (512 * (t.val % 4) + (y 2).val)) := by
  have hN : t.val < 8 := Nat.lt_of_lt_of_eq t.isLt N_0
  have h2 : (y 2).val < 512 := (y 2).isLt
  have ht : (tok (512 * (t.val % 4) + (y 2).val)).val = 512 * (t.val % 4) + (y 2).val := Nat.mod_eq_of_lt (by omega)
  blk_ext [idx t]

/-- Where an entry of the mask block of a point of the second pass lies in the array. -/
theorem place3_eq (t : Fin cfg0.N) (h4 : 4 ≤ t.val) (y : S64x64x512.Idx) :
    (win0_3.blk t).view.emb y = ix3 (y 0) (y 1) (tok (512 * (t.val % 4) + (y 2).val)) := by
  have hN : t.val < 8 := Nat.lt_of_lt_of_eq t.isLt N_0
  have h2 : (y 2).val < 512 := (y 2).isLt
  have ht : (tok (512 * (t.val % 4) + (y 2).val)).val = 512 * (t.val % 4) + (y 2).val := Nat.mod_eq_of_lt (by omega)
  blk_ext [idx t]

/-- A token's number from its block and its place there. -/
theorem tok_of (b : ℕ) (hb : b < 4) (j : Fin 512) : (tok (512 * b + j.val)).val = 512 * b + j.val := Nat.mod_eq_of_lt (by omega)

/-- The combined weights of the call, read at an entry. -/
theorem combT_at (e p : Fin 64) (s : Fin 2048) : combT m c (ix3 e p s) = comb (gates m c) s.val e p := rfl
/-- The mask of the call, read at an entry. -/
theorem maskT_at (e p : Fin 64) (s : Fin 2048) :
    maskT m c (ix3 e p s) = (BitVec.ofBool (decide (comb (gates m c) s.val e p ≠ 0))).setWidth 8 := rfl

include hG in
/-- A whole block against the arrays. -/
theorem block_arrays (b : ℕ) (hb : b < 4) (y : S64x64x512.Idx) :
    combOf (F := Ideal) (rowsB m c b) (carr m c 4).1 y = combT m c (ix3 (y 0) (y 1) (tok (512 * b + (y 2).val)))
    ∧ maskOf (F := Ideal) (rowsB m c b) (carr m c 4).1 y = maskT m c (ix3 (y 0) (y 1) (tok (512 * b + (y 2).val))) := by
  obtain ⟨e, p, j, rfl⟩ : ∃ (e p : Fin 64) (j : Fin 512), y = ix3 e p j := ⟨y 0, y 1, y 2, by blk_ext⟩
  show _ = combT m c (ix3 e p (tok (512 * b + j.val))) ∧ _ = maskT m c (ix3 e p (tok (512 * b + j.val)))
  have h := block_comb m c hG b hb j e p
  have k := tok_of b hb j
  refine ⟨h.1.trans ?_, h.2.trans ?_⟩
  · refine Eq.trans ?_ (combT_at m c e p _).symm; rw [k]
  · refine Eq.trans ?_ (maskT_at m c e p _).symm; rw [k]

include hG in
/-- The array of combined weights at the end. -/
theorem final_comb : (dats m 0 c).arrAt 2 cfg0.N = combT m c := by
  refine Dat.arrAt_eq_of_covers (dats m 0 c) 2 _ (by decide +kernel) fun t hf y => ?_
  have h4 := flushes t (Or.inl hf)
  blk_simp
  rw [after2]
  exact (block_arrays m c hG _ (Nat.mod_lt _ (by omega)) y).1.trans (congrArg _ (place2_eq t h4 y).symm)

include hG in
/-- The array of the mask at the end. -/
theorem final_mask : (dats m 0 c).arrAt 3 cfg0.N = maskT m c := by
  refine Dat.arrAt_eq_of_covers (dats m 0 c) 3 _ (by decide +kernel) fun t hf y => ?_
  have h4 := flushes t (Or.inr hf)
  blk_simp
  rw [after3]
  exact (block_arrays m c hG _ (Nat.mod_lt _ (by omega)) y).2.trans (congrArg _ (place3_eq t h4 y).symm)

end Arrays

/-- The counts and the sums of the gates. -/
def countT : IVec S64x1 32 := fun i => BitVec.ofNat 32 (count1 (gates m c) (i 0) 2048)
/-- The sums of the gates, as the call returns them. -/
def sumT : FVec Ideal S64x1 .f32 := fun i => ∑ s : Fin 2048, gates m c s.val (i 0)

/-- An index of a column is its row. -/
theorem column (j : S64x1.Idx) : ∃ e : Fin 64, j = ix2 e 0 := ⟨j 0, by blk_ext⟩

/-- The array of counts at the end. -/
theorem final_count : (dats m 0 c).arrAt 4 cfg0.N = countT m c := by
  refine (dats m 0 c).arrAt_eq_of_after_last 4 t0_7 (by decide +kernel) _ fun j => ?_
  blk_simp
  rw [after4]
  obtain ⟨e, rfl⟩ : ∃ e : Fin 64, j = (ix2 e 0 : S64x1.Idx) := column j
  exact count_at (gates m c) _ (fun e => (carried m c 4 (le_refl 4) e).1) e

/-- The array of the gates' sums at the end. -/
theorem final_sum : (dats m 0 c).arrAt 5 cfg0.N = sumT m c := by
  refine (dats m 0 c).arrAt_eq_of_after_last 5 t0_7 (by decide +kernel) _ fun j => ?_
  blk_simp
  rw [after5]
  obtain ⟨e, rfl⟩ : ∃ e : Fin 64, j = (ix2 e 0 : S64x1.Idx) := column j
  exact (carried m c 4 (le_refl 4) e).2.2

end Cert.KMath
-- ==== Proof.KernelValue.lean ====
/- What the kernel's four results hold, over the two arguments. -/
module

public import proofs.«01_k».proof.Proof.KernelOut
public import Idealize.ShloMosaic.Lib.Claim
public import Idealize.ShloMosaic.Lib.StableHlo.ReadAt

@[expose] public section

set_option maxRecDepth 16384

noncomputable section

namespace Cert.KMath

open Idealize.ShloMosaic Idealize.ShloMosaic.TcCoe Idealize.ShloMosaic.Tactic
open Idealize.SL Idealize.SL.Sem
open Idealize.ShloMosaic.Pipeline (Dat)
open Cert.KernelIdeal Cert.KernelIdeal.Gen Cert.Choice Cert.Route Cert.KRun

variable (m : (ℓ : Loc nD τ sig) → Buf (Elt Ideal) ℓ) (ρ : Dev nD → PrngReg)

section Tail

variable (σ : Valuation τ sig (Elt Ideal)) (C : FVec Ideal S64x64x2048 .f32) (M : IVec S64x64x2048 8) (n : IVec S64x1 32)
  (g : FVec Ideal S64x1 .f32) (hC : σ (Proc.devRef .tc main_v0_0) = C) (hM : σ (Proc.devRef .tc main_v0_1) = M)
  (hn : σ (Proc.devRef .tc main_v0_2) = n) (hg : σ (Proc.devRef .tc main_v0_3) = g)

/-- The auxiliary loss out of the counts and the sums of the gates. -/
def lossOf (n : IVec S64x1 32) (g : FVec Ideal S64x1 .f32) : EReal :=
  Ideal.div (∑ e : Fin 64, Ideal.div (g (ix2 e 0)) (Ideal.ofBits .f32 0x45000000#32)
      * Ideal.div (FloatOps.sitofp (F := Ideal) .f32 (n (ix2 e 0))) (Ideal.ofBits .f32 0x45000000#32))
    (Ideal.ofBits .f32 0x42800000#32) * Ideal.ofBits .f32 0x42800000#32 * Ideal.ofBits .f32 0x42800000#32

include hn in
/-- The counts after the host lines. -/
theorem tail_v1 : StableHlo.after hostOps1 σ (Proc.devRef .tc main_v1) = fun i : S64.Idx => n (ix2 (i 0) 0) := by
  funext i
  after_reads_at
  rw [hn]

include hn hg in
/-- The loss after the host lines. -/
theorem tail_v12 : StableHlo.after hostOps1 σ (Proc.devRef .tc main_v12) = fun _ : S_.Idx => lossOf n g := by
  funext i
  after_reads_at
  rw [hn, hg]; rfl

include hC in
/-- The combined weights after the host lines. -/
theorem tail_v13 : StableHlo.after hostOps1 σ (Proc.devRef .tc main_v13) = fun i : S2048x64x64.Idx => C (ix3 (i 1) (i 2) (i 0)) := by
  funext i
  after_reads_at
  rw [hC]

include hM in
/-- The mask after the host lines. -/
theorem tail_v17 : StableHlo.after hostOps1 σ (Proc.devRef .tc main_v17)
    = fun i : S2048x64x64.Idx => IntOp.cmpi .ne (M (ix3 (i 1) (i 2) (i 0))) 0#8 := by
  funext i
  after_reads_at
  rw [hM, id_eq]
  pointwise

end Tail

/-! ## The run -/

section Run

variable (c : Dev nD)

/-- The buffers the host lines start from. -/
def sig0 : Valuation τ sig (Elt Ideal) :=
  Pipeline.withArrays (cfgs 0).spec c (V0 m c) fun w => (dats m 0 c).arrAt w (cfgs 0).N

/-- What a buffer holds at the end is what the host lines make of the call's arrays. -/
theorem tail_eq (b : Ref sig .tc) :
    Pipeline.afterTail₀ cfgs (dats m) 0 (V0 m) [hostOps1] c b = StableHlo.after hostOps1 (sig0 m c) (Proc.devRef .tc b) := by
  unfold Pipeline.afterTail₀ sig0
  rw [List.flatten_singleton]

/-- The arrays of the call are different buffers. -/
theorem arrs_inj : Function.Injective (Pipeline.arrRef spec0) := by decide

/-- The arrays of the call before the host lines. -/
theorem sig0_at (w : Fin 6) : sig0 m c (Proc.devRef .tc (Pipeline.arrRef spec0 w)) = (dats m 0 c).arrAt w cfg0.N :=
  Pipeline.withArrays_arr _ arrs_inj c _ _ w

/-- A widened bit differs from zero when it is one. -/
theorem bit_ne (p : Prop) [Decidable p] :
    IntOp.cmpi .ne ((BitVec.ofBool (decide p)).setWidth 8) 0#8 = BitVec.ofBool (decide p) := by
  by_cases h : p
  · rw [decide_eq_true h]; rfl
  · rw [decide_eq_false h]; rfl

/-- The four results. -/
def outCount (G : ℕ → Fin 64 → EReal) : IVec S64 32 := fun i => BitVec.ofNat 32 (count1 G (i 0) 2048)
/-- The loss over the gates. -/
def outLoss (G : ℕ → Fin 64 → EReal) : FVec Ideal S_ .f32 := fun _ => loss G
/-- The combined weights over the gates, in the layout of the result. -/
def outComb (G : ℕ → Fin 64 → EReal) : FVec Ideal S2048x64x64 .f32 := fun i => comb G (i 0).val (i 1) (i 2)
/-- The mask over the gates. -/
def outMask (G : ℕ → Fin 64 → EReal) : IVec S2048x64x64 1 := fun i => BitVec.ofBool (decide (comb G (i 0).val (i 1) (i 2) ≠ 0))

/-- The counts at the end. -/
theorem v1_eq : Pipeline.afterTail₀ cfgs (dats m) 0 (V0 m) [hostOps1] c main_v1 = outCount (gates m c) := by
  rw [tail_eq, tail_v1 _ _ ((sig0_at m c 4).trans (final_count m c))]
  rfl

/-- The loss at the end. -/
theorem v12_eq : Pipeline.afterTail₀ cfgs (dats m) 0 (V0 m) [hostOps1] c main_v12 = outLoss (gates m c) := by
  rw [tail_eq, tail_v12 _ _ _ ((sig0_at m c 4).trans (final_count m c)) ((sig0_at m c 5).trans (final_sum m c))]
  unfold outLoss loss lossOf
  have h : ∀ e : Fin 64, FloatOps.sitofp (F := Ideal) .f32 (countT m c (ix2 e 0)) = real (count1 (gates m c) e 2048) := fun e => by
    have := count1_le (gates m c) e 2048
    show FloatOps.sitofp (F := Ideal) .f32 (BitVec.ofNat 32 (count1 (gates m c) e 2048)) = _
    exact sitofp_word _ (by omega)
  simp only [h]
  rfl

variable (hG : ∀ s e, 0 < gates m c s e)

include hG in
/-- The combined weights at the end. -/
theorem v13_eq : Pipeline.afterTail₀ cfgs (dats m) 0 (V0 m) [hostOps1] c main_v13 = outComb (gates m c) := by
  rw [tail_eq, tail_v13 _ _ ((sig0_at m c 2).trans (final_comb m c hG))]
  rfl

include hG in
/-- The mask at the end. -/
theorem v17_eq : Pipeline.afterTail₀ cfgs (dats m) 0 (V0 m) [hostOps1] c main_v17 = outMask (gates m c) := by
  rw [tail_eq, tail_v17 _ _ ((sig0_at m c 3).trans (final_mask m c hG))]
  funext i
  exact bit_ne _

end Run

/-- The program ends with the four results, its arguments unchanged. -/
theorem run (hG : ∀ c s e, 0 < gates m c s e) : θ_run defs (onTc (τ := τ) (main (F := Ideal))) ⟨m, fun _ => 0, ρ⟩ (fun r => ∀ c : Dev nD,
      r.2.mem ((c.tc : Thread nD τ).loc main_v12) = outLoss (gates m c)
      ∧ r.2.mem ((c.tc : Thread nD τ).loc main_v13) = outComb (gates m c)
      ∧ r.2.mem ((c.tc : Thread nD τ).loc main_v17) = outMask (gates m c)
      ∧ r.2.mem ((c.tc : Thread nD τ).loc main_v1) = outCount (gates m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have h := (θ_run defs (onTc (τ := τ) (main (F := Ideal))) _).mono (fun _ h => h.1) (run_main m ρ)
  have h' := (θ_run defs (onTc (τ := τ) (main (F := Ideal))) _).mono (fun _ h => h.1) (frame m ρ)
  run_from h & h'
  · exact v12_eq m c
  · exact v13_eq m c (hG c)
  · exact v17_eq m c (hG c)
  · exact v1_eq m c

end Cert.KMath
-- ==== Proof.RefMath.lean ====
/- What the reference computes, over the gates of its arguments: the choices, the places in the queues, and the results. -/
module

public import proofs.«01_k».proof.Proof.Gen.ReferenceIdeal.Read
public import proofs.«01_k».proof.Proof.KernelValue
public import Idealize.ShloMosaic.Lib.Routing.OpsOne

@[expose] public section

set_option maxRecDepth 16384

noncomputable section

namespace Cert.RMath

open Idealize.ShloMosaic Idealize.ShloMosaic.Tactic
open Cert.ReferenceIdeal Cert.ReferenceIdeal.Gen Cert.ReferenceIdeal.Read Cert.Choice Cert.Route

/-! ## Sums of words -/

/-- The wrapping sum of words, as a sum. -/
theorem fold_addi {n : ℕ} (f : Fin n → BitVec 32) : Finset.univ.fold IntOp.addi 0#32 f = ∑ k, f k :=
  (Finset.sum_eq_fold _ _).symm

/-- Counting with indicator words. -/
theorem sum_words (n : ℕ) (p : ℕ → Prop) [DecidablePred p] :
    ∑ t : Fin n, BitVec.ofNat 32 (if p t.val then 1 else 0) = BitVec.ofNat 32 (Nat.count p n) := by
  induction n with
  | zero => rfl
  | succ n ih =>
    rw [Fin.sum_univ_castSucc]
    rw [show (∑ i : Fin n, BitVec.ofNat 32 (if p (i.castSucc).val then 1 else 0)) = BitVec.ofNat 32 (Nat.count p n) from ih]
    rw [Nat.count_succ, BitVec.ofNat_add]
    rfl

/-- The same as a sum of naturals over a range. -/
theorem sum_range (n : ℕ) (p : ℕ → Prop) [DecidablePred p] :
    ((List.range n).map fun t => if p t then 1 else 0).sum = Nat.count p n := by
  induction n with
  | zero => rfl
  | succ n ih => rw [List.range_succ, List.map_append, List.sum_append, ih, Nat.count_succ]; rfl

/-! ## Sorting rows -/

/-- Two arrays sorted row by row, the second read at an entry. -/
theorem sort2_row {R C : ℕ} {α β : Type} (cmp : α × β → α × β → BitVec 1) (x : (⟨2, ![R, C]⟩ : Shape).Idx → α)
    (y : (⟨2, ![R, C]⟩ : Shape).Idx → β) (r : Fin R) (c : Fin C) :
    (Host.sort2 (⟨2, ![R, C]⟩ : Shape) 1 cmp x y).2 (ix2 r c)
      = y (ix2 r (sortedFrom (fun k k' : Fin C => cmp (x (ix2 r k), y (ix2 r k)) (x (ix2 r k'), y (ix2 r k')) == 1#1) c)) := by
  have al : ∀ k : Fin C, (ix2 r c : (⟨2, ![R, C]⟩ : Shape).Idx).along 1 k = ix2 r k := fun k => by
    funext a
    match a with
    | ⟨0, _⟩ => rfl
    | ⟨1, _⟩ => rfl
  have h : (fun k k' : Fin C => cmp (x ((ix2 r c : (⟨2, ![R, C]⟩ : Shape).Idx).along 1 k), y ((ix2 r c : (⟨2, ![R, C]⟩ : Shape).Idx).along 1 k))
        (x ((ix2 r c : (⟨2, ![R, C]⟩ : Shape).Idx).along 1 k'), y ((ix2 r c : (⟨2, ![R, C]⟩ : Shape).Idx).along 1 k')) == 1#1)
      = fun k k' : Fin C => cmp (x (ix2 r k), y (ix2 r k)) (x (ix2 r k'), y (ix2 r k')) == 1#1 := by
    funext k k'; rw [al, al]
  rw [← h]
  exact congrArg y (al _)

/-! ## One choice of one token -/

/-- The mask of a choice that is kept: the choice's mask where the place is short of the capacity. -/
theorem kept_word (a e : Fin 64) (p : ℕ) (hp : p < 2 ^ 31) (l : BitVec 32) (hl : a = e → l = BitVec.ofNat 32 p) :
    IntOp.muli (BitVec.ofNat 32 (if a = e then 1 else 0)) ((IntOp.cmpi .slt l 64#32).setWidth 32)
      = BitVec.ofNat 32 (if a = e ∧ p < 64 then 1 else 0) := by
  by_cases h : a = e
  · rw [hl h, Cert.KMath.slt_64 p hp]
    by_cases h2 : p < 64 <;> simp [h, h2, IntOp.muli]
  · simp [h, IntOp.muli]

/-- The place of a choice that is kept, summed out of the row of places. -/
theorem place_word (a : Fin 64) (p : ℕ) (l : Fin 64 → BitVec 32) (hl : l a = BitVec.ofNat 32 p) :
    ∑ e, IntOp.muli (l e) (BitVec.ofNat 32 (if a = e ∧ p < 64 then 1 else 0)) = BitVec.ofNat 32 (if p < 64 then p else 0) := by
  rw [Finset.sum_eq_single a]
  · rw [hl]
    by_cases h : p < 64 <;> simp [h, IntOp.muli]
  · intro b _ hb
    simp [Ne.symm hb, IntOp.muli]
  · intro h; exact absurd (Finset.mem_univ a) h

/-- The value of an indicator word. -/
theorem word_value (p : Prop) [Decidable p] :
    FloatOps.sitofp (F := Ideal) .f32 (BitVec.ofNat 32 (if p then 1 else 0)) = if p then 1 else 0 := by
  rw [sitofp_word _ (by split <;> norm_num)]
  by_cases h : p <;> simp [h, real_zero, real_one]

/-- The value of a one-bit answer. -/
theorem bit_value (p : Prop) [Decidable p] :
    FloatOps.uitofp (F := Ideal) .f32 (BitVec.ofBool (decide p)) = if p then 1 else 0 := by
  by_cases h : p
  · rw [if_pos h, decide_eq_true h]; show ((((1#1 : BitVec 1).toNat : ℝ)) : EReal) = 1; simp
  · rw [if_neg h, decide_eq_false h]; show ((((0#1 : BitVec 1).toNat : ℝ)) : EReal) = 0; simp

/-- The gate of a choice that is kept, summed out of the row of gates. -/
theorem kept_value (a : Fin 64) (p : ℕ) (g : Fin 64 → EReal) :
    ∑ e, g e * (if a = e ∧ p < 64 then 1 else 0) = if p < 64 then g a else 0 := by
  by_cases h : p < 64
  · rw [if_pos h, ← sum_pick g a]
    exact Finset.sum_congr rfl fun e _ => by simp [h, eq_comm]
  · simp [h]

/-- What a choice adds to the combined weights: a choice that is dropped adds nothing at the place 0 that stands in for it. -/
theorem term_value (w : EReal) (a e c : Fin 64) (p : ℕ) :
    w * (if a = e ∧ p < 64 then 1 else 0) * (if c.val = (if p < 64 then p else 0) then 1 else 0)
      = if e = a then w * (if c.val = p then 1 else 0) else 0 := by
  have hc := c.isLt
  by_cases h : a = e
  · subst h
    by_cases h2 : p < 64
    · simp [h2]
    · have h3 : c.val ≠ p := by omega
      simp [h2, h3]
  · simp [h, Ne.symm h]

section

variable (X : FVec Ideal S2048x4096 .f32) (W : FVec Ideal S64x4096 .f32)

/-! ## The gates -/

/-- The scores. -/
theorem v1_at (s : Fin 2048) (e : Fin 64) : val_main_v1 (F := Ideal) X W (ix2 s e) = logit X W s.val e := by
  unfold logit
  rw [tok_val]
  pointwise [val_main_v1, val_main_v0]

/-- The greatest score of a token. -/
theorem v4_at (s : Fin 2048) : val_main_v4 (F := Ideal) X W (ix1 s) = logit X W s.val (lead (logit X W s.val)) := by
  have h : val_main_v2 (F := Ideal) X W (ix1 s) = logit X W s.val (lead (logit X W s.val)) := by
    rw [← fold_max_eq (logit X W s.val) _ Cert.KMath.ofBits_neg_inf]
    pointwise [val_main_v2, val_main_cst]
    exact Finset.fold_congr fun e _ => v1_at X W s e
  rw [val_main_v4_apply, h, val_main_v3_apply, val_main_cst_0_apply]
  show max (Ideal.ofBits .f32 0xFF800000#32) _ = _
  rw [Cert.KMath.ofBits_neg_inf, max_eq_right bot_le]

/-- A score's exponential, the token's greatest score subtracted first. -/
theorem v8_at (s : Fin 2048) (e : Fin 64) :
    val_main_v8 (F := Ideal) X W (ix2 s e) = Ideal.exp (logit X W s.val e - logit X W s.val (lead (logit X W s.val))) := by
  pointwise [val_main_v8, val_main_v7, val_main_v6, val_main_v5]
  rw [← v1_at, ← v4_at]

/-- The gates. -/
theorem v12_at (s : Fin 2048) (e : Fin 64) : val_main_v12 (F := Ideal) X W (ix2 s e) = gate X W s.val e := by
  have h : val_main_v9 (F := Ideal) X W (ix1 s) = ∑ k, Ideal.exp (logit X W s.val k - logit X W s.val (lead (logit X W s.val))) := by
    pointwise [val_main_v9, val_main_cst_1]
    exact Finset.sum_congr rfl fun e _ => v8_at X W s e
  pointwise [val_main_v12, val_main_v11, val_main_v10]
  unfold gate softRow
  rw [← h, ← v8_at]

/-! ## The choices -/

variable (hG : ∀ s e, 0 < gate X W s e)

/-- The expert a token chooses first, second. -/
def pick (s : ℕ) : Fin 2 → Fin 64 := ![E1 (gate X W) s, E2 (gate X W) s]

include hG in
/-- The numbers of the two chosen experts. -/
theorem indices_at (s : Fin 2048) (i : Fin 2) : val_main_indices (F := Ideal) X W (ix2 s i) = BitVec.ofNat 32 (pick X W s.val i).val := by
  unfold val_main_indices Host.topK
  dsimp only
  rw [extractStridedSlice_apply _ _ _ (ix2 s i) (ix2 s (i.castLE (by norm_num : 2 ≤ 64))) (fun a => by
    match a with
    | ⟨0, _⟩ => show s.val = 0 + s.val; omega
    | ⟨1, _⟩ => show i.val = 0 + i.val; omega)]
  rw [sort2_row]
  have h : (fun k k' : Fin 64 => FloatOps.cmpfTotal (F := Ideal) (φ := .f32) .gt (val_main_v12 (F := Ideal) X W (ix2 s k)) (val_main_v12 (F := Ideal) X W (ix2 s k')) == 1#1)
      = fun k k' => Ideal.cmp .ogt (gate X W s.val k) (gate X W s.val k') == 1#1 := by
    funext k k'
    rw [v12_at, v12_at]
    rfl
  dsimp only
  rw [h, sortedFrom_two (by norm_num) _ (hG s.val)]
  rfl

/-- A one-hot entry, as a word. -/
theorem mask_word (a b : Fin 64) : (IntOp.cmpi .eq (BitVec.ofNat 32 a.val) (BitVec.ofNat 32 b.val)).setWidth 32 = BitVec.ofNat 32 (if a = b then 1 else 0) := by
  rw [Cert.KMath.cmpi_expert]
  by_cases h : a = b <;> simp [h]

include hG in
/-- The mask of the first choices. -/
theorem v15_at (s : Fin 2048) (e : Fin 64) : val_main_v15 (F := Ideal) X W (ix2 s e) = BitVec.ofNat 32 (if E1 (gate X W) s.val = e then 1 else 0) := by
  rw [← mask_word, ← show pick X W s.val 0 = E1 (gate X W) s.val from rfl, ← indices_at X W hG]
  pointwise [val_main_v15, val_main_v14, val_main_v13, val_main_call0_v4, val_main_call0_v3, val_main_call0_v2, val_main_call0_v1, val_main_call0_v0]

include hG in
/-- The mask of the second choices. -/
theorem v17_at (s : Fin 2048) (e : Fin 64) : val_main_v17 (F := Ideal) X W (ix2 s e) = BitVec.ofNat 32 (if E2 (gate X W) s.val = e then 1 else 0) := by
  rw [← mask_word, ← show pick X W s.val 1 = E2 (gate X W) s.val from rfl, ← indices_at X W hG]
  pointwise [val_main_v17, val_main_v16, val_main_v13, val_main_call0_v4, val_main_call0_v3, val_main_call0_v2, val_main_call0_v1, val_main_call0_v0]

/-! ## The places in the queues -/

/-- A mask's running sum down its columns. -/
theorem running (M : IVec S2048x64 32) (p : ℕ → Fin 64 → Prop) [∀ s e, Decidable (p s e)] (hM : ∀ (s : Fin 2048) (e : Fin 64), M (ix2 s e) = BitVec.ofNat 32 (if p s.val e then 1 else 0))
    (init : IVec S_ 32) (hi : ∀ i, init i = 0#32) (s : Fin 2048) (e : Fin 64) :
    Host.reduceWindow IntOp.addi ![2048, 1] ![1, 1] ![2047, 0] ![0, 0] M init reduceWindows_S2048x64_S2048x64_w2048s1p2047_0_w1s1p0_0 h_S_ (ix2 s e)
      = BitVec.ofNat 32 (Nat.count (fun t => p t e) (s.val + 1)) := by
  refine (Routing.cumsum_rows (R := 2048) (Rm1 := 2047) (C := 64) rfl M (fun s c => if p s ⟨c % 64, Nat.mod_lt _ (by norm_num)⟩ then 1 else 0) (fun s c => ?_) init (hi _) _ _ s e).trans ?_
  · refine (hM s c).trans ?_
    rw [show (⟨c.val % 64, Nat.mod_lt _ (by norm_num)⟩ : Fin 64) = c from Fin.ext (Nat.mod_eq_of_lt c.isLt)]
  · rw [show (⟨e.val % 64, Nat.mod_lt _ (by norm_num)⟩ : Fin 64) = e from Fin.ext (Nat.mod_eq_of_lt e.isLt)]
    rw [sum_range]

include hG in
/-- The running counts of first choices, the token itself included. -/
theorem v18_at (s : Fin 2048) (e : Fin 64) : val_main_v18 (F := Ideal) X W (ix2 s e) = BitVec.ofNat 32 (count1 (gate X W) e (s.val + 1)) :=
  running _ (fun t e => E1 (gate X W) t = e) (fun s e => v15_at X W hG s e) _ (fun i => rfl) s e

include hG in
/-- The running counts of second choices, the token itself included. -/
theorem v21_at (s : Fin 2048) (e : Fin 64) : val_main_v21 (F := Ideal) X W (ix2 s e) = BitVec.ofNat 32 (count2 (gate X W) e (s.val + 1)) :=
  running _ (fun t e => E2 (gate X W) t = e) (fun s e => v17_at X W hG s e) _ (fun i => rfl) s e

include hG in
/-- How many tokens have an expert as their first. -/
theorem v28_at (e : Fin 64) : val_main_v28 (F := Ideal) X W (ix1 e) = BitVec.ofNat 32 (count1 (gate X W) e 2048) := by
  pointwise [val_main_v28, val_main_c_4]
  rw [fold_addi, Finset.sum_congr rfl fun s _ => v15_at X W hG s e]
  exact sum_words 2048 fun t => E1 (gate X W) t = e

include hG in
/-- The counts of first choices that the second choices queue behind. -/
theorem v24_at (e : Fin 64) : val_main_v24 (F := Ideal) X W (ix1 e) = BitVec.ofNat 32 (count1 (gate X W) e 2048) := v28_at X W hG e

/-- A place in the first queue is a small natural. -/
theorem place1_lt (s : Fin 2048) : place1 (gate X W) s.val < 2 ^ 31 := by
  have h := count1_le (gate X W) (E1 (gate X W) s.val) s.val
  unfold place1; omega

/-- A place in the second queue is a small natural. -/
theorem place2_lt (s : Fin 2048) : place2 (gate X W) s.val < 2 ^ 31 := by
  have h := count1_le (gate X W) (E2 (gate X W) s.val) 2048
  have h' := count2_le (gate X W) (E2 (gate X W) s.val) s.val
  unfold place2; omega

/-- A word one less. -/
theorem succ_sub_one (a : ℕ) : IntOp.subi (BitVec.ofNat 32 (a + 1)) 1#32 = BitVec.ofNat 32 a := by
  rw [BitVec.ofNat_add]
  show BitVec.ofNat 32 a + 1#32 - 1#32 = _
  rw [BitVec.add_sub_cancel]

include hG in
/-- The place of a token in the queue of its first expert. -/
theorem v20_at (s : Fin 2048) : val_main_v20 (F := Ideal) X W (ix2 s (E1 (gate X W) s.val)) = BitVec.ofNat 32 (place1 (gate X W) s.val) := by
  rw [val_main_v20_apply, v18_at X W hG, val_main_v19_apply, val_main_c_apply]
  rw [show count1 (gate X W) (E1 (gate X W) s.val) (s.val + 1) = place1 (gate X W) s.val + 1 from by
    unfold place1 count1; rw [Nat.count_succ, if_pos rfl]]
  exact succ_sub_one _

include hG in
/-- The place of a token in the queue of its second expert. -/
theorem v27_at (s : Fin 2048) : val_main_v27 (F := Ideal) X W (ix2 s (E2 (gate X W) s.val)) = BitVec.ofNat 32 (place2 (gate X W) s.val) := by
  have h : val_main_v26 (F := Ideal) X W (ix2 s (E2 (gate X W) s.val)) = BitVec.ofNat 32 (count1 (gate X W) (E2 (gate X W) s.val) 2048) := by
    rw [← v24_at X W hG]
    pointwise [val_main_v26, val_main_v25]
  rw [val_main_v27_apply, val_main_v23_apply, v21_at X W hG, val_main_v22_apply, val_main_c_2_apply, h]
  rw [show count2 (gate X W) (E2 (gate X W) s.val) (s.val + 1) = count2 (gate X W) (E2 (gate X W) s.val) s.val + 1 from by
    unfold count2; rw [Nat.count_succ, if_pos rfl]]
  rw [succ_sub_one]
  exact (BitVec.ofNat_add _ _).symm

/-! ## The choices that are kept -/

include hG in
/-- The mask of the first choices that are kept. -/
theorem v44_at (s : Fin 2048) (e : Fin 64) : val_main_v44 (F := Ideal) X W (ix2 s e)
    = BitVec.ofNat 32 (if E1 (gate X W) s.val = e ∧ place1 (gate X W) s.val < 64 then 1 else 0) := by
  rw [val_main_v44_apply, v15_at X W hG, val_main_v43_apply, val_main_v42_apply, val_main_v41_apply, val_main_c_13_apply]
  exact kept_word _ _ _ (place1_lt X W s) _ fun h => by rw [← h]; exact v20_at X W hG s

include hG in
/-- The mask of the second choices that are kept. -/
theorem v48_at (s : Fin 2048) (e : Fin 64) : val_main_v48 (F := Ideal) X W (ix2 s e)
    = BitVec.ofNat 32 (if E2 (gate X W) s.val = e ∧ place2 (gate X W) s.val < 64 then 1 else 0) := by
  rw [val_main_v48_apply, v17_at X W hG, val_main_v47_apply, val_main_v46_apply, val_main_v45_apply, val_main_c_14_apply]
  exact kept_word _ _ _ (place2_lt X W s) _ fun h => by rw [← h]; exact v27_at X W hG s

include hG in
/-- The place of a first choice that is kept, 0 for one that is dropped. -/
theorem v50_at (s : Fin 2048) : val_main_v50 (F := Ideal) X W (ix1 s)
    = BitVec.ofNat 32 (if place1 (gate X W) s.val < 64 then place1 (gate X W) s.val else 0) := by
  rw [← place_word (E1 (gate X W) s.val) _ (fun e => val_main_v20 (F := Ideal) X W (ix2 s e)) (v20_at X W hG s), ← fold_addi]
  pointwise [val_main_v50, val_main_v49, val_main_c_15]
  exact Finset.fold_congr fun e _ => by rw [v44_at X W hG]

include hG in
/-- The place of a second choice that is kept, 0 for one that is dropped. -/
theorem v52_at (s : Fin 2048) : val_main_v52 (F := Ideal) X W (ix1 s)
    = BitVec.ofNat 32 (if place2 (gate X W) s.val < 64 then place2 (gate X W) s.val else 0) := by
  rw [← place_word (E2 (gate X W) s.val) _ (fun e => val_main_v27 (F := Ideal) X W (ix2 s e)) (v27_at X W hG s), ← fold_addi]
  pointwise [val_main_v52, val_main_v51, val_main_c_16]
  exact Finset.fold_congr fun e _ => by rw [v48_at X W hG]

include hG in
/-- The mask of the first choices kept, as values. -/
theorem v53_at (s : Fin 2048) (e : Fin 64) : val_main_v53 (F := Ideal) X W (ix2 s e)
    = if E1 (gate X W) s.val = e ∧ place1 (gate X W) s.val < 64 then 1 else 0 := by
  rw [val_main_v53_apply, v44_at X W hG, word_value]

include hG in
/-- The mask of the second choices kept, as values. -/
theorem v54_at (s : Fin 2048) (e : Fin 64) : val_main_v54 (F := Ideal) X W (ix2 s e)
    = if E2 (gate X W) s.val = e ∧ place2 (gate X W) s.val < 64 then 1 else 0 := by
  rw [val_main_v54_apply, v48_at X W hG, word_value]

include hG in
/-- The first gate, dropped where the queue is full. -/
theorem v56_at (s : Fin 2048) : val_main_v56 (F := Ideal) X W (ix1 s) = kept1 (gate X W) s.val := by
  unfold kept1
  rw [← kept_value]
  pointwise [val_main_v56, val_main_v55, val_main_cst_17]
  exact Finset.sum_congr rfl fun e _ => by rw [v12_at, v53_at X W hG]

include hG in
/-- The second gate, dropped where the queue is full. -/
theorem v58_at (s : Fin 2048) : val_main_v58 (F := Ideal) X W (ix1 s) = kept2 (gate X W) s.val := by
  unfold kept2
  rw [← kept_value]
  pointwise [val_main_v58, val_main_v57, val_main_cst_18]
  exact Finset.sum_congr rfl fun e _ => by rw [v12_at, v54_at X W hG]

include hG in
/-- The normalizer. -/
theorem v60_at (s : Fin 2048) : val_main_v60 (F := Ideal) X W (ix1 s) = den (gate X W) s.val := by
  unfold den
  rw [max_comm, ← v56_at X W hG, ← v58_at X W hG]
  rw [val_main_v60_apply, val_main_v59_apply, val_main_call3_v0_apply, val_main_cst_19_apply]
  rfl

/-! ## The results -/

/-- A place's one-hot row, read at an entry. -/
theorem hot_value (c : Fin 64) (p : ℕ) (hp : p < 2 ^ 31) :
    FloatOps.uitofp (F := Ideal) .f32 (IntOp.cmpi .eq (BitVec.ofNat 32 p) (BitVec.ofNat 32 c.val)) = if c.val = p then 1 else 0 := by
  rw [Cert.KMath.cmpi_nat p c.val hp (by omega), bit_value]
  exact if_congr eq_comm rfl rfl

include hG in
/-- The one-hot row of the first place. -/
theorem v69_at (s : Fin 2048) (c : Fin 64) : val_main_v69 (F := Ideal) X W (ix2 s c)
    = if c.val = (if place1 (gate X W) s.val < 64 then place1 (gate X W) s.val else 0) then 1 else 0 := by
  rw [← hot_value _ _ (by have := place1_lt X W s; split <;> omega), ← v50_at X W hG]
  pointwise [val_main_v69, val_main_call4_v4, val_main_call4_v3, val_main_call4_v2, val_main_call4_v1, val_main_call4_v0]

include hG in
/-- The one-hot row of the second place. -/
theorem v70_at (s : Fin 2048) (c : Fin 64) : val_main_v70 (F := Ideal) X W (ix2 s c)
    = if c.val = (if place2 (gate X W) s.val < 64 then place2 (gate X W) s.val else 0) then 1 else 0 := by
  rw [← hot_value _ _ (by have := place2_lt X W s; split <;> omega), ← v52_at X W hG]
  pointwise [val_main_v70, val_main_call5_v4, val_main_call5_v3, val_main_call5_v2, val_main_call5_v1, val_main_call5_v0]

include hG in
/-- The weight of the first choice. -/
theorem v61_at (s : Fin 2048) : val_main_v61 (F := Ideal) X W (ix1 s) = weight1 (gate X W) s.val := by
  unfold weight1
  rw [val_main_v61_apply, v56_at X W hG, v60_at X W hG]
  rfl

include hG in
/-- The weight of the second choice. -/
theorem v62_at (s : Fin 2048) : val_main_v62 (F := Ideal) X W (ix1 s) = weight2 (gate X W) s.val := by
  unfold weight2
  rw [val_main_v62_apply, v58_at X W hG, v60_at X W hG]
  rfl

include hG in
/-- What the first choice adds to the combined weights. -/
theorem v75_at (s : Fin 2048) (e c : Fin 64) : val_main_v75 (F := Ideal) X W (ix3 s e c)
    = if e = E1 (gate X W) s.val then weight1 (gate X W) s.val * (if c.val = place1 (gate X W) s.val then 1 else 0) else 0 := by
  rw [← term_value, ← v61_at X W hG, ← v53_at X W hG, ← v69_at X W hG]
  pointwise [val_main_v75, val_main_v74, val_main_v73, val_main_v72, val_main_v71, val_main_v65, val_main_v64, val_main_v63]

include hG in
/-- What the second choice adds. -/
theorem v80_at (s : Fin 2048) (e c : Fin 64) : val_main_v80 (F := Ideal) X W (ix3 s e c)
    = if e = E2 (gate X W) s.val then weight2 (gate X W) s.val * (if c.val = place2 (gate X W) s.val then 1 else 0) else 0 := by
  rw [← term_value, ← v62_at X W hG, ← v54_at X W hG, ← v70_at X W hG]
  pointwise [val_main_v80, val_main_v79, val_main_v78, val_main_v77, val_main_v76, val_main_v68, val_main_v67, val_main_v66]

include hG in
/-- The combined weights. -/
theorem comb_eq : val_main_v81 (F := Ideal) X W = Cert.KMath.outComb (gate X W) := by
  funext y
  obtain ⟨s, e, c, rfl⟩ : ∃ (s : Fin 2048) (e c : Fin 64), y = ix3 s e c := ⟨y 0, y 1, y 2, by blk_ext⟩
  rw [val_main_v81_apply, v75_at X W hG, v80_at X W hG]
  rfl

include hG in
/-- The dispatch mask. -/
theorem mask_eq : val_main_v84 (F := Ideal) X W = Cert.KMath.outMask (gate X W) := by
  funext y
  have h0 : val_main_v82 (F := Ideal) y = 0 := by
    rw [val_main_v82_apply, val_main_cst_20_apply]
    exact Ideal.ofBits_zero .f32
  rw [val_main_v84_apply, val_main_v83_apply, comb_eq X W hG, h0]
  rfl

include hG in
/-- How many tokens have each expert as their first. -/
theorem count_eq : val_main_v28 (F := Ideal) X W = Cert.KMath.outCount (gate X W) := by
  funext y
  obtain ⟨e, rfl⟩ : ∃ e : Fin 64, y = ix1 e := ⟨y 0, by blk_ext⟩
  exact v28_at X W hG e

include hG in
/-- The auxiliary loss. -/
theorem loss_eq : val_main_v40 (F := Ideal) X W = Cert.KMath.outLoss (gate X W) := by
  have h29 : ∀ e : Fin 64, val_main_v29 (F := Ideal) X W (ix1 e) = ∑ s : Fin 2048, gate X W s.val e := fun e => by
    pointwise [val_main_v29, val_main_cst_5]
    exact Finset.sum_congr rfl fun s _ => v12_at X W s e
  have h33 : ∀ e : Fin 64, val_main_v33 (F := Ideal) X W (ix1 e) = real (count1 (gate X W) e 2048) := fun e => by
    unfold count1
    rw [← sum_indicator]
    pointwise [val_main_v33, val_main_v32, val_main_cst_7]
    exact Finset.sum_congr rfl fun s _ => by rw [v15_at X W hG, word_value]
  have h36 : ∀ e : Fin 64, val_main_v36 (F := Ideal) X W (ix1 e)
      = Ideal.div (∑ s : Fin 2048, gate X W s.val e) (Ideal.ofBits .f32 0x45000000#32)
        * Ideal.div (real (count1 (gate X W) e 2048)) (Ideal.ofBits .f32 0x45000000#32) := fun e => by
    rw [val_main_v36_apply, val_main_v35_apply, val_main_v31_apply, h29, h33, val_main_v30_apply, val_main_v34_apply]
    rfl
  have h37 : ∀ y, val_main_v37 (F := Ideal) X W y = ∑ e : Fin 64, val_main_v36 (F := Ideal) X W (ix1 e) := fun y => by
    pointwise [val_main_v37, val_main_cst_9]
  funext y
  rw [val_main_v40_apply, val_main_v39_apply, val_main_v38_apply, h37, Finset.sum_congr rfl fun e _ => h36 e]
  rfl

end

end Cert.RMath
-- ==== Proof.Algebraic.lean ====
/- Under the precondition the kernel and the reference end with the same four results. -/
module

public import proofs.«01_k».proof.Defs
public import proofs.«01_k».proof.Proof.RefMath
public import Idealize.ShloMosaic.Lib.ReduceAll
public import Idealize.ShloMosaic.Lib.Affine

@[expose] public section

set_option maxRecDepth 16384

noncomputable section

namespace Cert.Algebraic

open Idealize.ShloMosaic Idealize.ShloMosaic.TcCoe Idealize.SL.Sem Cert.Route

/-! ## The precondition -/

/-- The side conditions of the precondition's operations. -/
theorem preFacts : Cert.Pre_finite_inputs.Facts where
  bcast_S_S2048x4096 := by decide
  reducesTo_S2048x4096_S_d0_1 := by decide
  h_S_ := by decide
  bcast_S_S64x4096 := by decide
  reducesTo_S64x4096_S_d0_1 := by decide

/-- The word of +inf is the greatest value. -/
theorem ofBits_inf : Ideal.ofBits .f32 0x7F800000#32 = ⊤ := by
  show Ideal.ieee 8 23 (0x7F800000#32 : BitVec 32) = ⊤
  unfold Ideal.ieee; simp

/-- An extended real whose magnitude is below the greatest is a real number. -/
theorem real_of_magnitude (x : EReal) (h : FloatOps.cmpf (F := Ideal) (φ := .f32) .olt (FloatOps.hostAbsf (F := Ideal) (φ := .f32) x) (FloatOps.ofBits (F := Ideal) .f32 0x7F800000#32) = 1#1) : ∃ r : ℝ, x = r := by
  have h' : max x (-x) < ⊤ := by
    by_contra hn
    have : BitVec.ofBool (decide (max x (-x) < Ideal.ofBits .f32 0x7F800000#32)) = 1#1 := h
    rw [ofBits_inf, decide_eq_false hn] at this
    exact absurd this (by decide)
  induction x using EReal.rec with
  | bot => simp at h'
  | coe r => exact ⟨r, rfl⟩
  | top => simp at h'

/-- Where the precondition holds every entry of both arguments is a real number. -/
theorem reals_of_pre [Cert.Pre_finite_inputs.Facts] (X : FVec Ideal Cert.Pre_finite_inputs.S2048x4096 .f32) (W : FVec Ideal Cert.Pre_finite_inputs.S64x4096 .f32)
    (h : Cert.Pre_finite_inputs.fn (F := Ideal) X W = fun _ => 1#1) : (∀ i, ∃ r : ℝ, X i = r) ∧ (∀ i, ∃ r : ℝ, W i = r) := by
  have h0 := congrFun h (fun a => a.elim0)
  dsimp only [Cert.Pre_finite_inputs.fn] at h0
  obtain ⟨hX, hW⟩ := IntOp.andi_eq_one.1 h0
  exact ⟨fun i => real_of_magnitude _ (Host.reduce_andi_all _ _ _ _ _ hX i), fun i => real_of_magnitude _ (Host.reduce_andi_all _ _ _ _ _ hW i)⟩

/-! ## The reference -/

section Reference

open Cert.ReferenceIdeal

/-- The reference ends with the four results over the gates of its arguments, which it leaves unchanged. -/
theorem run_reference (m : (ℓ : Loc nD τ sig) → Buf (Elt Ideal) ℓ) (ρ : Dev nD → PrngReg) (G : Dev nD → ℕ → Fin 64 → EReal)
    (hE : ∀ c : Dev nD, gate (m ((c.tc : Thread nD τ).loc main_arg0)) (m ((c.tc : Thread nD τ).loc main_arg1)) = G c)
    (hG : ∀ c s e, 0 < G c s e) :
    θ_run defs (onTc (τ := τ) (main (F := Ideal))) ⟨m, fun _ => 0, ρ⟩ (fun r => ∀ c : Dev nD,
      r.2.mem ((c.tc : Thread nD τ).loc main_v40) = Cert.KMath.outLoss (G c)
      ∧ r.2.mem ((c.tc : Thread nD τ).loc main_v81) = Cert.KMath.outComb (G c)
      ∧ r.2.mem ((c.tc : Thread nD τ).loc main_v84) = Cert.KMath.outMask (G c)
      ∧ r.2.mem ((c.tc : Thread nD τ).loc main_v28) = Cert.KMath.outCount (G c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs (onTc (τ := τ) (main (F := Ideal))) _).mono (fun r h c => ?_) (Cert.ReferenceIdeal.Value.run m ρ)
  have hpos : ∀ s e, 0 < gate (m ((c.tc : Thread nD τ).loc main_arg0)) (m ((c.tc : Thread nD τ).loc main_arg1)) s e := fun s e => by
    rw [hE c]; exact hG c s e
  obtain ⟨h1, h2, h3, h4, h5, h6⟩ := h c
  exact ⟨h1.trans ((Read.val_main_v40_eq m c).trans ((Cert.RMath.loss_eq _ _ hpos).trans (congrArg Cert.KMath.outLoss (hE c)))),
    h2.trans ((Read.val_main_v81_eq m c).trans ((Cert.RMath.comb_eq _ _ hpos).trans (congrArg Cert.KMath.outComb (hE c)))),
    h3.trans ((Read.val_main_v84_eq m c).trans ((Cert.RMath.mask_eq _ _ hpos).trans (congrArg Cert.KMath.outMask (hE c)))),
    h4.trans ((Read.val_main_v28_eq (m ((c.tc : Thread nD τ).loc main_arg0)) (m ((c.tc : Thread nD τ).loc main_arg1))).trans
      ((Cert.RMath.count_eq _ _ hpos).trans (congrArg Cert.KMath.outCount (hE c)))), h5, h6⟩

end Reference

/-! ## The two together -/

/-- From arguments that agree and satisfy the precondition both programs end with the same four results. -/
theorem algebraic [Cert.KernelIdeal.Facts] [Cert.ReferenceIdeal.Facts] [Cert.Pre_finite_inputs.Facts] :
    Cert.algebraic_KernelIdeal_ReferenceIdeal_pre_finite_inputs := by
  intro m g m' g' hpre hagree
  have hG : ∀ c s e, 0 < Cert.KMath.gates m c s e := fun c s e => by
    obtain ⟨hX, hW⟩ := reals_of_pre _ _ (hpre c)
    exact gate_pos _ _ hX hW s e
  refine ⟨fun c => Cert.KMath.outLoss (Cert.KMath.gates m c), fun c => Cert.KMath.outComb (Cert.KMath.gates m c),
    fun c => Cert.KMath.outMask (Cert.KMath.gates m c), fun c => Cert.KMath.outCount (Cert.KMath.gates m c), Cert.KMath.run m g hG, ?_⟩
  refine run_reference m' g' (fun c => Cert.KMath.gates m c) (fun c => ?_) hG
  rw [(hagree c).1, (hagree c).2]
  rfl

end Cert.Algebraic
-- ==== Proof.lean ====
/- The claims, put together: the frames of the three programs, the step from the kernel to its ideal form, and the equality of the
   results of the kernel and the reference over the reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Reference
public import proofs.«01_k».proof.Proof.Frames
public import proofs.«01_k».proof.Proof.Algebraic

@[expose] public section

noncomputable section

namespace Cert.Proof

open Idealize.ShloMosaic Idealize.SL.Sem

/-- The kernel runs to the end, leaves its arguments unchanged and every counter at zero. -/
theorem quiescent_kernel [Cert.Kernel.Facts] : Cert.quiescent_Kernel := fun m g _ => Cert.KRun.frame_bits m g

/-- So does its ideal form. -/
theorem quiescent_kernelIdeal [Cert.KernelIdeal.Facts] : Cert.quiescent_KernelIdeal := fun m g _ => Cert.KRun.frame m g

/-- So does its ideal form where the precondition holds. -/
theorem quiescent_kernelIdeal_pre [Cert.KernelIdeal.Facts] [Cert.Pre_finite_inputs.Facts] : Cert.quiescent_KernelIdeal_pre_finite_inputs :=
  fun m g _ => Cert.KRun.frame m g

/-- So does the reference, which has no semaphore. -/
theorem quiescent_referenceIdeal [Cert.ReferenceIdeal.Facts] : Cert.quiescent_ReferenceIdeal := fun m g _ => Cert.Ref.frame m g

/-- So does the reference where the precondition holds. -/
theorem quiescent_referenceIdeal_pre [Cert.ReferenceIdeal.Facts] [Cert.Pre_finite_inputs.Facts] : Cert.quiescent_ReferenceIdeal_pre_finite_inputs :=
  fun m g _ => Cert.Ref.frame m g

/-- All the claims. -/
theorem claim : Cert.Claim :=
  ⟨Cert.Kernel.Gen.facts, Cert.KernelIdeal.Gen.facts, Cert.ReferenceIdeal.Gen.facts, Cert.Algebraic.preFacts,
    quiescent_kernel, quiescent_kernelIdeal, @quiescent_kernelIdeal_pre _ Cert.Algebraic.preFacts,
    quiescent_referenceIdeal, @quiescent_referenceIdeal_pre _ Cert.Algebraic.preFacts, trivial,
    @Cert.Algebraic.algebraic _ _ Cert.Algebraic.preFacts⟩

end Cert.Proof

end
